-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2048x2048 : Shape := ⟨2, ![2048, 2048]⟩
abbrev S512x2048 : Shape := ⟨2, ![512, 2048]⟩
abbrev S4x512x512 : Shape := ⟨3, ![4, 512, 512]⟩
abbrev S4x512x2048 : Shape := ⟨3, ![4, 512, 2048]⟩
abbrev S4 : Shape := ⟨1, ![4]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x2048 : Shape := ⟨3, ![1, 512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .local _ .vmem, ⟨0, _⟩ => ⟨S512x2048, .f32⟩
  | .local _ .vmem, ⟨1, _⟩ => ⟨S2048x512, .f32⟩
  | .local _ .vmem, ⟨2, _⟩ => ⟨S2048x512, .bf16⟩
  | .local _ .vmem, ⟨3, _⟩ => ⟨S4x512x512, .bf16⟩
  | .local _ .vmem, ⟨4, _⟩ => ⟨S4x512x2048, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_42 : BitVec 32 := 0#32
  let c0_i32_43 : BitVec 32 := 0#32
  ![v2.toNat, 0, 0]
def k0_off2 (d0 : Dev nD) (c1_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.addi v2 c1_i32_31
  let c4_i32_32 : BitVec 32 := 4#32
  let c0_i32_33 : BitVec 32 := 0#32
  let v49 : BitVec 1 := Scalar.cmpi .eq c4_i32_32 c0_i32_33
  let c1_i32_34 : BitVec 32 := 1#32
  let v50 : BitVec 32 := Scalar.select v49 c1_i32_34 c4_i32_32
  let v51 : BitVec 32 := Scalar.remsi v48 v50
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let c0_i32_35 : BitVec 32 := 0#32
  let v52 : BitVec 1 := Scalar.cmpi .ne v51 c0_i32_35
  let v56 : BitVec 1 := Scalar.andi v55 v52
  let v57 : BitVec 32 := Scalar.addi v51 v50
  let v58 : BitVec 32 := Scalar.select v56 v57 v51
  let c512_i32 : BitVec 32 := 512#32
  let v59 : BitVec 32 := Scalar.muli v58 c512_i32
  let c0_i32_44 : BitVec 32 := 0#32
  ![v59.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v48 : BitVec 32 := Scalar.addi v2 c1_i32_31
  let c4_i32_32 : BitVec 32 := 4#32
  let c0_i32_33 : BitVec 32 := 0#32
  let v49 : BitVec 1 := Scalar.cmpi .eq c4_i32_32 c0_i32_33
  let c1_i32_34 : BitVec 32 := 1#32
  let v50 : BitVec 32 := Scalar.select v49 c1_i32_34 c4_i32_32
  let v51 : BitVec 32 := Scalar.remsi v48 v50
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let c0_i32_35 : BitVec 32 := 0#32
  let v52 : BitVec 1 := Scalar.cmpi .ne v51 c0_i32_35
  let v56 : BitVec 1 := Scalar.andi v55 v52
  let v57 : BitVec 32 := Scalar.addi v51 v50
  let v58 : BitVec 32 := Scalar.select v56 v57 v51
  let c1_i32_40 : BitVec 32 := 1#32
  let v60 : BitVec 32 := Scalar.muli v58 c1_i32_40
  let v61 : BitVec 32 := Scalar.addi c0_i32_41 v60
  v61.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v69 : BitVec 32 := Scalar.addi v2 c2_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_55 : BitVec 32 := 1#32
  let v81 : BitVec 32 := Scalar.muli v79 c1_i32_55
  let v82 : BitVec 32 := Scalar.addi c0_i32_56 v81
  v82.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_60 : BitVec 32 := 3#32
  let v90 : BitVec 32 := Scalar.addi v2 c3_i32_60
  let c4_i32_61 : BitVec 32 := 4#32
  let c0_i32_62 : BitVec 32 := 0#32
  let v91 : BitVec 1 := Scalar.cmpi .eq c4_i32_61 c0_i32_62
  let c1_i32_63 : BitVec 32 := 1#32
  let v92 : BitVec 32 := Scalar.select v91 c1_i32_63 c4_i32_61
  let v93 : BitVec 32 := Scalar.remsi v90 v92
  let c0_i32_65 : BitVec 32 := 0#32
  let v95 : BitVec 1 := Scalar.cmpi .slt v93 c0_i32_65
  let c0_i32_66 : BitVec 32 := 0#32
  let v96 : BitVec 1 := Scalar.cmpi .slt v92 c0_i32_66
  let v97 : BitVec 1 := Scalar.xori v95 v96
  let c0_i32_64 : BitVec 32 := 0#32
  let v94 : BitVec 1 := Scalar.cmpi .ne v93 c0_i32_64
  let v98 : BitVec 1 := Scalar.andi v97 v94
  let v99 : BitVec 32 := Scalar.addi v93 v92
  let v100 : BitVec 32 := Scalar.select v98 v99 v93
  let c1_i32_70 : BitVec 32 := 1#32
  let v102 : BitVec 32 := Scalar.muli v100 c1_i32_70
  let v103 : BitVec 32 := Scalar.addi c0_i32_71 v102
  v103.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_96 : BitVec 32 := 512#32
  let v144 : BitVec 32 := Scalar.muli v2 c512_i32_96
  let c0_i32_101 : BitVec 32 := 0#32
  ![v144.toNat, 0]
def k0_off4 (d0 : Dev nD) (c1_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.subi v2 c1_i32_75
  let c4_i32_76 : BitVec 32 := 4#32
  let c0_i32_77 : BitVec 32 := 0#32
  let v112 : BitVec 1 := Scalar.cmpi .eq c4_i32_76 c0_i32_77
  let c1_i32_78 : BitVec 32 := 1#32
  let v113 : BitVec 32 := Scalar.select v112 c1_i32_78 c4_i32_76
  let v114 : BitVec 32 := Scalar.remsi v111 v113
  let c0_i32_80 : BitVec 32 := 0#32
  let v116 : BitVec 1 := Scalar.cmpi .slt v114 c0_i32_80
  let c0_i32_81 : BitVec 32 := 0#32
  let v117 : BitVec 1 := Scalar.cmpi .slt v113 c0_i32_81
  let v118 : BitVec 1 := Scalar.xori v116 v117
  let c0_i32_79 : BitVec 32 := 0#32
  let v115 : BitVec 1 := Scalar.cmpi .ne v114 c0_i32_79
  let v119 : BitVec 1 := Scalar.andi v118 v115
  let v120 : BitVec 32 := Scalar.addi v114 v113
  let v121 : BitVec 32 := Scalar.select v119 v120 v114
  let c512_i32_102 : BitVec 32 := 512#32
  let v150 : BitVec 32 := Scalar.muli v121 c512_i32_102
  let c0_i32_107 : BitVec 32 := 0#32
  ![v150.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_125 : BitVec 32 := 512#32
  let v173 : BitVec 32 := Scalar.muli v2 c512_i32_125
  let v174 : Index := Scalar.indexCast v173
  let c0_126 : Index := 0#32
  ![v174.toNat, 0]
def k0_off6 (d0 : Dev nD) (c1_i32_132 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v180 : BitVec 32 := Scalar.subi v2 c1_i32_132
  let c4_i32_133 : BitVec 32 := 4#32
  let c0_i32_134 : BitVec 32 := 0#32
  let v181 : BitVec 1 := Scalar.cmpi .eq c4_i32_133 c0_i32_134
  let c1_i32_135 : BitVec 32 := 1#32
  let v182 : BitVec 32 := Scalar.select v181 c1_i32_135 c4_i32_133
  let v183 : BitVec 32 := Scalar.remsi v180 v182
  let c0_i32_137 : BitVec 32 := 0#32
  let v185 : BitVec 1 := Scalar.cmpi .slt v183 c0_i32_137
  let c0_i32_138 : BitVec 32 := 0#32
  let v186 : BitVec 1 := Scalar.cmpi .slt v182 c0_i32_138
  let v187 : BitVec 1 := Scalar.xori v185 v186
  let c0_i32_136 : BitVec 32 := 0#32
  let v184 : BitVec 1 := Scalar.cmpi .ne v183 c0_i32_136
  let v188 : BitVec 1 := Scalar.andi v187 v184
  let v189 : BitVec 32 := Scalar.addi v183 v182
  let v190 : BitVec 32 := Scalar.select v188 v189 v183
  let c0_i32_143 : BitVec 32 := 0#32
  let c0_i32_144 : BitVec 32 := 0#32
  ![v190.toNat, 0, 0]
def k0_off7 (d0 : Dev nD) (c1_i32_132 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v180 : BitVec 32 := Scalar.subi v2 c1_i32_132
  let c4_i32_133 : BitVec 32 := 4#32
  let c0_i32_134 : BitVec 32 := 0#32
  let v181 : BitVec 1 := Scalar.cmpi .eq c4_i32_133 c0_i32_134
  let c1_i32_135 : BitVec 32 := 1#32
  let v182 : BitVec 32 := Scalar.select v181 c1_i32_135 c4_i32_133
  let v183 : BitVec 32 := Scalar.remsi v180 v182
  let c0_i32_137 : BitVec 32 := 0#32
  let v185 : BitVec 1 := Scalar.cmpi .slt v183 c0_i32_137
  let c0_i32_138 : BitVec 32 := 0#32
  let v186 : BitVec 1 := Scalar.cmpi .slt v182 c0_i32_138
  let v187 : BitVec 1 := Scalar.xori v185 v186
  let c0_i32_136 : BitVec 32 := 0#32
  let v184 : BitVec 1 := Scalar.cmpi .ne v183 c0_i32_136
  let v188 : BitVec 1 := Scalar.andi v187 v184
  let v189 : BitVec 32 := Scalar.addi v183 v182
  let v190 : BitVec 32 := Scalar.select v188 v189 v183
  let v205 : Index := Scalar.indexCast v190
  let c0_154 : Index := 0#32
  let c0_155 : Index := 0#32
  ![v205.toNat, 0, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Sched.lean ====
/-
# The exchange of `KernelIdeal`: its memrefs, its cells and its schedule

Four devices each hold a 512-column slab of `x` (all 2048 rows) and the whole of `w_mat`.  Device `c` casts its slab,
cuts it into four row blocks and sends row block `c + d` to device `c + d`, for the distances `d = 1, 2, 3` around the
ring of four.  The protocol, cell by cell:

* the BARRIER cell of `c` has one round with the three duties `d = 1, 2, 3` of one unit each.  Duty `d` is paid by
  device `c - d`, which hands over its landing slot number `c` (at any contents) and the fact that its receive
  cell for the transfer coming from `c` is at round 0.  `c` waits for three units before it sends anything.
* the RECEIVE cell `d` of `c` has one round with one duty of a slot's credit, paid by the transfer from
  `c - d`: it hands over `c`'s landing slot number `c - d`, holding row block `c` of the cast slab of `c - d`.
* the SEND cell `d` of `c` has one round with one duty of a slot's credit, paid by `c`'s own transfer to `c + d`: it
  hands back the row block `c + d` of `c`'s cast slab.

The semaphores of the local copies (the slab, the four row blocks of `w_mat`) belong to no schedule: each local copy is
a flight of its own.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Ring
public import Idealize.ShloMosaic.Lib.VecWindow
public import Idealize.ShloMosaic.Lib.Tactic

@[expose] public section

set_option maxRecDepth 16384

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's rounds, their duties named by a distance. -/
abbrev UB : Type := URounds (GSem nD τ sig) (Fin 4)
/-- The pipeline's rounds beside the exchange's and the local copies' counters. -/
abbrev UU : Type := UR sig nD τ × (UB × Counters)

local notation "𝕄" => MT nD τ sig Unit (Elt F) ℕ UU ℕ

/-- Where the pipeline's rounds lie. -/
abbrev EP : Emb (UR sig nD τ) (MT nD τ sig Unit (Elt F) ℕ UU ℕ) := embL
/-- Where the exchange's rounds lie. -/
def ER : Emb UB (MT nD τ sig Unit (Elt F) ℕ UU ℕ) := (Emb.inl : Emb UB (UB × Counters)).trans embR

omit [FloatOps F] in
/-- They lie in the part that updates reach. -/
instance ER_lands : (ER (F := F)).LandsIn (upEmb : UEmb _ 𝕄) := by unfold ER; infer_instance

/-- The cells of the local copies' counters. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Distances around the ring of four -/

set_option backward.proofsInPublic true in
/-- The device at distance `d` after `c`. -/
def sh (c : Dev nD) (d : Fin 4) : Dev nD := ⟨(c.val + d.val) % 4, Nat.mod_lt _ (by decide)⟩
set_option backward.proofsInPublic true in
/-- The opposite distance. -/
def ng (d : Fin 4) : Fin 4 := ⟨(4 - d.val) % 4, Nat.mod_lt _ (by decide)⟩

/-- There and back. -/
theorem sh_ng (c : Dev nD) (d : Fin 4) : sh (sh c d) (ng d) = c := by revert c d; decide
/-- Back and there. -/
theorem ng_sh (c : Dev nD) (d : Fin 4) : sh (sh c (ng d)) d = c := by revert c d; decide
/-- The opposite of the opposite. -/
theorem ng_ng (d : Fin 4) : ng (ng d) = d := by revert d; decide
/-- Different devices have different devices at the same distance. -/
theorem sh_inj (d : Fin 4) {a b : Dev nD} (h : sh a d = sh b d) : a = b := by rw [← sh_ng a d, h, sh_ng]

/-- The shift by `d` as a permutation of the devices. -/
def shift (d : Fin 4) : Dev nD ≃ Dev nD := ⟨fun c => sh c d, fun c => sh c (ng d), fun c => sh_ng c d, fun c => ng_sh c d⟩

/-- First signal: distance 1. -/
theorem dev1_eq (c : Dev nD) : (⟨k0_dev1 c, k0_dev1_lt c⟩ : Dev nD) = sh c 1 := by revert c; decide +kernel
/-- Second signal: distance 2. -/
theorem dev2_eq (c : Dev nD) : (⟨k0_dev2 c, k0_dev2_lt c⟩ : Dev nD) = sh c 2 := by revert c; decide +kernel
/-- Third signal: distance 3. -/
theorem dev3_eq (c : Dev nD) : (⟨k0_dev3 c, k0_dev3_lt c⟩ : Dev nD) = sh c 3 := by revert c; decide +kernel
/-- First transfer: distance 1. -/
theorem dev4_eq (c : Dev nD) : (⟨k0_dev4 c, k0_dev4_lt c⟩ : Dev nD) = sh c 1 := by revert c; decide +kernel
/-- Second transfer: distance 2. -/
theorem dev5_eq (c : Dev nD) : (⟨k0_dev5 c, k0_dev5_lt c⟩ : Dev nD) = sh c 2 := by revert c; decide +kernel
/-- Third transfer: distance 3. -/
theorem dev6_eq (c : Dev nD) : (⟨k0_dev6 c, k0_dev6_lt c⟩ : Dev nD) = sh c 3 := by revert c; decide +kernel

/-! The printed offsets: a row block's and a slot's. -/

/-- What the transfer to distance `d` reads: row block `c + d`. -/
theorem off2_eq (c : Dev nD) (d : Fin 4) : k0_off2 c (BitVec.ofNat 32 d.val) = ![512 * (sh c d).val, 0] := by revert c d; decide +kernel
/-- What the copy for distance `d` fetches: row block `c - d`. -/
theorem off4_eq (c : Dev nD) (d : Fin 4) : k0_off4 c (BitVec.ofNat 32 d.val) = ![512 * (sh c (ng d)).val, 0] := by revert c d; decide +kernel
/-- What is loaded for distance `d`: slot `c - d`. -/
theorem off7_eq (c : Dev nD) (d : Fin 4) : k0_off7 c (BitVec.ofNat 32 d.val) = ![(sh c (ng d)).val, 0, 0] := by revert c d; decide +kernel

/-! ## The memrefs -/

/-- The argument `x`. -/
abbrev aM : Memref sig .tc .hbm S2048x512 .f32 := Memref.whole main_arg0
/-- The argument `w_mat`. -/
abbrev hM : Memref sig .tc .hbm S2048x2048 .f32 := Memref.whole main_arg1
/-- The result's staging buffer. -/
abbrev oM : Memref sig .tc .vmem S512x2048 .f32 := Memref.whole cc0_stg0_0
/-- The slab in VMEM. -/
abbrev xM : Memref sig .tc .vmem S2048x512 .f32 := Memref.whole cc0_scratch0
/-- The cast slab. -/
abbrev bM : Memref sig .tc .vmem S2048x512 .bf16 := Memref.whole cc0_scratch1
/-- The landing buffer. -/
abbrev cM : Memref sig .tc .vmem S4x512x512 .bf16 := Memref.whole cc0_scratch2
/-- The fetched row blocks of `w_mat`. -/
abbrev wM : Memref sig .tc .vmem S4x512x2048 .f32 := Memref.whole cc0_scratch3

/-- A row block of the slab lies in its buffer. -/
theorem blk_inb (q : Fin 4) : ∀ a, (![512 * q.val, 0] : Fin 2 → ℕ) a + S512x512.size a ≤ S2048x512.size a := by revert q; decide
/-- A row block of `w_mat` lies in its buffer. -/
theorem row_inb (q : Fin 4) : ∀ a, (![512 * q.val, 0] : Fin 2 → ℕ) a + S512x2048.size a ≤ S2048x2048.size a := by revert q; decide
/-- A landing slot lies in its buffer. -/
theorem slot_inb (q : Fin 4) : ∀ a, (![q.val, 0, 0] : Fin 3 → ℕ) a + S1x512x512.size a ≤ S4x512x512.size a := by revert q; decide
/-- A slot for a row block of `w_mat` lies in its buffer. -/
theorem wsl_inb (q : Fin 4) : ∀ a, (![q.val, 0, 0] : Fin 3 → ℕ) a + S1x512x2048.size a ≤ S4x512x2048.size a := by revert q; decide

/-- Row block `q` of the cast slab. -/
abbrev blkM (q : Fin 4) : Memref sig .tc .vmem S512x512 .bf16 :=
  bM.slice (Rect.unit (s := S2048x512) ![512 * q.val, 0] S512x512.size (blk_inb q)) (fun _ => rfl)
/-- Row block `q` of `w_mat`. -/
abbrev rowM (q : Fin 4) : Memref sig .tc .hbm S512x2048 .f32 :=
  hM.slice (Rect.unit (s := S2048x2048) ![512 * q.val, 0] S512x2048.size (row_inb q)) (fun _ => rfl)
/-- Landing slot `q`. -/
abbrev slotM (q : Fin 4) : Memref sig .tc .vmem S512x512 .bf16 :=
  (cM.slice (Rect.unit (s := S4x512x512) ![q.val, 0, 0] S1x512x512.size (slot_inb q)) (fun _ => rfl)).squeeze S512x512 squeezes_S1x512x512_S512x512
/-- Slot `j` of the fetched row blocks of `w_mat`. -/
abbrev wslM (j : Fin 4) : Memref sig .tc .vmem S512x2048 .f32 :=
  (wM.slice (Rect.unit (s := S4x512x2048) ![j.val, 0, 0] S1x512x2048.size (wsl_inb j)) (fun _ => rfl)).squeeze S512x2048 squeezes_S1x512x2048_S512x2048

/-! Each of the four families cuts its buffer into four disjoint pieces that cover it. -/

/-- A row block of the slab as a set of elements. -/
theorem blk_set (q : Fin 4) : (blkM q).view.set = (Rect.unit (s := S2048x512) ![512 * q.val, 0] S512x512.size (blk_inb q)).set := View.set_slice_whole _ _
/-- A row block of `w_mat` as a set of elements. -/
theorem row_set (q : Fin 4) : (rowM q).view.set = (Rect.unit (s := S2048x2048) ![512 * q.val, 0] S512x2048.size (row_inb q)).set := View.set_slice_whole _ _
/-- A landing slot as a set of elements. -/
theorem slot_set (q : Fin 4) : (slotM q).view.set = (Rect.unit (s := S4x512x512) ![q.val, 0, 0] S1x512x512.size (slot_inb q)).set :=
  (View.set_reshape _ _).trans (View.set_slice_whole _ _)
/-- A slot for a row block of `w_mat` as a set of elements. -/
theorem wsl_set (q : Fin 4) : (wslM q).view.set = (Rect.unit (s := S4x512x2048) ![q.val, 0, 0] S1x512x2048.size (wsl_inb q)).set :=
  (View.set_reshape _ _).trans (View.set_slice_whole _ _)

/-- Blocks of `k` at different numbers lie one after the other. -/
theorem off_apart {b b' : Fin 4} (h : b ≠ b') (k : ℕ) : k * b.val + k ≤ k * b'.val ∨ k * b'.val + k ≤ k * b.val := by
  rcases Nat.lt_or_gt_of_ne (fun e => h (Fin.ext e)) with h' | h'
  · left; calc k * b.val + k = k * (b.val + 1) := (Nat.mul_succ _ _).symm
      _ ≤ k * b'.val := Nat.mul_le_mul_left _ h'
  · right; calc k * b'.val + k = k * (b'.val + 1) := (Nat.mul_succ _ _).symm
      _ ≤ k * b.val := Nat.mul_le_mul_left _ h'

/-- A row block of the slab shares nothing with another. -/
theorem blk_disjoint (b b' : Fin 4) (h : b ≠ b') : Disjoint (blkM b).view.set (blkM b').view.set := by
  rw [blk_set, blk_set]; exact Rect.unit_disjoint (s := S2048x512) 0 (off_apart h 512)
/-- A row block of `w_mat` shares nothing with another. -/
theorem row_disjoint (b b' : Fin 4) (h : b ≠ b') : Disjoint (rowM b).view.set (rowM b').view.set := by
  rw [row_set, row_set]; exact Rect.unit_disjoint (s := S2048x2048) 0 (off_apart h 512)
/-- A landing slot shares nothing with another. -/
theorem slot_disjoint (b b' : Fin 4) (h : b ≠ b') : Disjoint (slotM b).view.set (slotM b').view.set := by
  rw [slot_set, slot_set]; exact Rect.unit_disjoint (s := S4x512x512) 0 (by have := off_apart h 1; rwa [Nat.one_mul, Nat.one_mul] at this)
/-- A slot for a row block of `w_mat` shares nothing with another. -/
theorem wsl_disjoint (b b' : Fin 4) (h : b ≠ b') : Disjoint (wslM b).view.set (wslM b').view.set := by
  rw [wsl_set, wsl_set]; exact Rect.unit_disjoint (s := S4x512x2048) 0 (by have := off_apart h 1; rwa [Nat.one_mul, Nat.one_mul] at this)

/-- A row block of the slab holds each element of the buffer. -/
theorem blk_cover : Finset.univ.biUnion (β := S2048x512.Idx) (fun q : Fin 4 => (blkM q).view.set) = Finset.univ := by
  refine Finset.eq_univ_iff_forall.mpr fun i => Finset.mem_biUnion.mpr ⟨⟨(i 0).val / 512, ?_⟩, Finset.mem_univ _, ?_⟩
  · have := (i 0).isLt; exact Nat.div_lt_of_lt_mul this
  · rw [blk_set]; refine Rect.mem_set_unit.mpr fun a => ?_
    match a with
    | ⟨0, _⟩ => show 512 * ((i 0).val / 512) ≤ (i 0).val ∧ (i 0).val < 512 * ((i 0).val / 512) + 512; omega
    | ⟨1, _⟩ => have := (i 1).isLt; exact ⟨Nat.zero_le _, by show (i 1).val < 0 + 512; rw [Nat.zero_add]; exact this⟩
/-- A row block of `w_mat` holds each element of the buffer. -/
theorem row_cover : Finset.univ.biUnion (β := S2048x2048.Idx) (fun q : Fin 4 => (rowM q).view.set) = Finset.univ := by
  refine Finset.eq_univ_iff_forall.mpr fun i => Finset.mem_biUnion.mpr ⟨⟨(i 0).val / 512, ?_⟩, Finset.mem_univ _, ?_⟩
  · have := (i 0).isLt; exact Nat.div_lt_of_lt_mul this
  · rw [row_set]; refine Rect.mem_set_unit.mpr fun a => ?_
    match a with
    | ⟨0, _⟩ => show 512 * ((i 0).val / 512) ≤ (i 0).val ∧ (i 0).val < 512 * ((i 0).val / 512) + 512; omega
    | ⟨1, _⟩ => have := (i 1).isLt; exact ⟨Nat.zero_le _, by show (i 1).val < 0 + 2048; rw [Nat.zero_add]; exact this⟩
/-- A landing slot holds each element of the buffer. -/
theorem slot_cover : Finset.univ.biUnion (β := S4x512x512.Idx) (fun q : Fin 4 => (slotM q).view.set) = Finset.univ := by
  refine Finset.eq_univ_iff_forall.mpr fun i => Finset.mem_biUnion.mpr ⟨⟨(i 0).val, (i 0).isLt⟩, Finset.mem_univ _, ?_⟩
  rw [slot_set]; refine Rect.mem_set_unit.mpr fun a => ?_
  match a with
  | ⟨0, _⟩ => exact ⟨Nat.le_refl _, Nat.lt_succ_self _⟩
  | ⟨1, _⟩ => have := (i 1).isLt; exact ⟨Nat.zero_le _, by show (i 1).val < 0 + 512; rw [Nat.zero_add]; exact this⟩
  | ⟨2, _⟩ => have := (i 2).isLt; exact ⟨Nat.zero_le _, by show (i 2).val < 0 + 512; rw [Nat.zero_add]; exact this⟩
/-- A slot for a row block of `w_mat` holds each element of the buffer. -/
theorem wsl_cover : Finset.univ.biUnion (β := S4x512x2048.Idx) (fun q : Fin 4 => (wslM q).view.set) = Finset.univ := by
  refine Finset.eq_univ_iff_forall.mpr fun i => Finset.mem_biUnion.mpr ⟨⟨(i 0).val, (i 0).isLt⟩, Finset.mem_univ _, ?_⟩
  rw [wsl_set]; refine Rect.mem_set_unit.mpr fun a => ?_
  match a with
  | ⟨0, _⟩ => exact ⟨Nat.le_refl _, Nat.lt_succ_self _⟩
  | ⟨1, _⟩ => have := (i 1).isLt; exact ⟨Nat.zero_le _, by show (i 1).val < 0 + 512; rw [Nat.zero_add]; exact this⟩
  | ⟨2, _⟩ => have := (i 2).isLt; exact ⟨Nat.zero_le _, by show (i 2).val < 0 + 2048; rw [Nat.zero_add]; exact this⟩

/-! ## The cells -/

/-- The runtime's barrier semaphore. -/
abbrev barS : Sem sig := (SemArray.scalar (sig.barrier 0 rfl) : Sems sig S_).sem
set_option backward.proofsInPublic true in
/-- The send semaphore of the transfer to distance `d`. -/
def sendS (d : Fin 4) : DmaSem sig := (⟨1 + d.val, by have := d.isLt; omega⟩ : Fin 14)
set_option backward.proofsInPublic true in
/-- The receive semaphore of the transfer that comes from distance `d` before. -/
def recvS (d : Fin 4) : DmaSem sig := (⟨5 + d.val, by have := d.isLt; omega⟩ : Fin 14)
/-- The semaphore of the slab's copy. -/
abbrev xS : DmaSem sig := (9 : Fin 14)
set_option backward.proofsInPublic true in
/-- The semaphore of the copy into slot `j` of the row blocks of `w_mat`. -/
def wS (j : Fin 4) : DmaSem sig := (⟨10 + j.val, by have := j.isLt; omega⟩ : Fin 14)

/-- Device `c`'s barrier cell. -/
abbrev barCell (c : Dev nD) : GSem nD τ sig := ((c : Thread nD τ), .reg barS)
/-- Its send cell at distance `d`. -/
abbrev sendCell (c : Dev nD) (d : Fin 4) : GSem nD τ sig := ((c : Thread nD τ), .dma (sendS d))
/-- Its receive cell at distance `d`. -/
abbrev recvCell (c : Dev nD) (d : Fin 4) : GSem nD τ sig := ((c : Thread nD τ), .dma (recvS d))

/-- The credit of one landing slot: the bytes of a 512 × 512 block. -/
abbrev N : ℕ := (slotM 0).view.dmaCredit
/-- It is not nothing. -/
theorem N_pos : 0 < N := View.dmaCredit_pos _ (by decide)

/-! ## Contents -/

/-- Device `c`'s slab of `x`. -/
def xC (c : Dev nD) : (cc0_scratch0 : Ref sig .tc).ty.Contents (Elt F) := m ((c : Thread nD τ).loc main_arg0)
/-- Device `c`'s copy of `w_mat`. -/
def hC (c : Dev nD) : (main_arg1 : Ref sig .tc).ty.Contents (Elt F) := m ((c : Thread nD τ).loc main_arg1)
/-- Its slab cast. -/
def xbC (c : Dev nD) : (cc0_scratch1 : Ref sig .tc).ty.Contents (Elt F) := k0_pay1 (xC m c)
/-- What device `q` sends device `c`: row block `c` of its cast slab. -/
def cb (c q : Dev nD) : FVec F S512x512 .bf16 := (blkM c).view.read (Elt F) (xbC m q)
/-- Row block `q` of `w_mat`. -/
def wb (c q : Dev nD) : FVec F S512x2048 .f32 := (rowM q).view.read (Elt F) (hC m c)
/-- Row block `c` of device `c`'s own slab, not cast. -/
def xd (c : Dev nD) : FVec F S512x512 .f32 :=
  (xM : Memref sig .tc .vmem S2048x512 .f32).view.readAt (Elt F) (Rect.unit (s := S2048x512) ![512 * c.val, 0] S512x512.size (blk_inb c)).toLoadRect (xC m c)

/-- One block product. -/
def mm (a : FVec F S512x512 .f32) (b : FVec F S512x2048 .f32) : FVec F S512x2048 .f32 :=
  matmul dot_S512x512_S512x2048_S512x2048_1_0_0_1_n_n none a b (constant S512x2048 .f32 0x00000000#32)
/-- The device's own contribution. -/
def acc0 (c : Dev nD) : FVec F S512x2048 .f32 := mm (xd m c) (wb m c c)
/-- The contribution of the block that came from `q` added to `acc`. -/
def accAdd (c q : Dev nD) (acc : FVec F S512x2048 .f32) : FVec F S512x2048 .f32 :=
  addf acc (mm (extf .f32 (cb m c q) bitsLt_bf16_f32) (wb m c q))
/-- The result of device `c`: its four contributions summed in the kernel's order, and the epilogue. -/
def outAt (c : Dev nD) : FVec F S512x2048 .f32 :=
  k0_pay6 (accAdd m c (sh c 2) (accAdd m c (sh c 1) (accAdd m c (sh c 3) (acc0 m c))))

/-! ## What the cells hand over -/

/-- Device `c`'s landing slot `q`, at contents `f`. -/
def slotPts (c : Dev nD) (q : Fin 4) (f : Buf (Elt F) ((slotM q).view.loc (c : Thread nD τ))) : sProp 𝕄 :=
  (slotM q).view.loc (c : Thread nD τ) ↦[(slotM q).view.set]{fullShare} f
/-- Device `c`'s row block `q` of its cast slab. -/
def blkPts (c : Dev nD) (q : Fin 4) : sProp 𝕄 :=
  (blkM q).view.loc (c : Thread nD τ) ↦[(blkM q).view.set]{fullShare} (xbC m c)

omit [FloatOps F] in
/-- A slot may be kept in an invariant. -/
instance slotPts_storable (c : Dev nD) (q : Fin 4) (f) : BI.Storable (upEmb : UEmb _ 𝕄) (slotPts (F := F) c q f) := by unfold slotPts; infer_instance
/-- So may a row block. -/
instance blkPts_storable (c : Dev nD) (q : Fin 4) : BI.Storable (upEmb : UEmb _ 𝕄) (blkPts (F := F) m c q) := by unfold blkPts; infer_instance

/-- Duty `d` of `c`'s barrier cell, paid by `c - d`. -/
def barPay (c : Dev nD) (d : Fin 4) : sProp 𝕄 := iprop((∃ f, slotPts (sh c (ng d)) c f) ∗ reached ER (recvCell (sh c (ng d)) (ng d)) 0)
/-- The duty of `c`'s receive cell `d`, paid by `c - d`. -/
def recvPay (c : Dev nD) (d : Fin 4) : sProp 𝕄 := slotPts c (sh c (ng d)) ((slotM (sh c (ng d))).view.rep (cb m c (sh c (ng d))))
/-- The duty of `c`'s send cell `d`, paid by `c` itself. -/
def sendPay (c : Dev nD) (d : Fin 4) : sProp 𝕄 := blkPts m c (sh c d)

/-- The duties of a cell at round 0, by its semaphore. -/
def dutiesOf : SemLoc sig → Finset (Fin 4)
  | .reg _ => {1, 2, 3}
  | .dma _ => {0}
/-- The units of a duty. -/
def amountAt : SemLoc sig → ℕ
  | .reg _ => 1
  | .dma _ => N
/-- What a duty hands over. -/
def payAt (c : Dev nD) (d : Fin 4) : SemLoc sig → sProp 𝕄
  | .reg _ => barPay c d
  | .dma s => if s.val < 5 then sendPay m c ⟨(s.val - 1) % 4, Nat.mod_lt _ (by decide)⟩ else recvPay m c ⟨(s.val - 5) % 4, Nat.mod_lt _ (by decide)⟩

/-- The schedule: one round per cell. -/
def exRd : Rounds.Schedule (GSem nD τ sig) (Fin 4) 𝕄 where
  duties g r := if r = 0 then dutiesOf g.2 else ∅
  unitless _ := False
  amount g _ _ := amountAt g.2
  payload g _ d := payAt m g.1.1 d g.2
  amount_pos g _ _ _ := by
    rcases g with ⟨t, s | s⟩
    · exact Nat.one_pos
    · exact N_pos

/-- So may whatever a duty hands over. -/
instance exRd_payload_storable (g : GSem nD τ sig) (r : ℕ) (d : Fin 4) :
    BI.Storable (upEmb : UEmb _ 𝕄) ((exRd (F := F) m).payload g r d) := by
  rcases g with ⟨t, s | s⟩
  · show BI.Storable upEmb (barPay (F := F) t.1 d)
    unfold barPay; infer_instance
  · show BI.Storable upEmb (if s.val < 5 then sendPay m t.1 ⟨(s.val - 1) % 4, _⟩ else recvPay m t.1 ⟨(s.val - 5) % 4, _⟩)
    unfold sendPay recvPay
    split <;> infer_instance

/-! The schedule read at its cells. A send and a receive cell differ in their payload only: what is said of the counts
is said once, of a DMA semaphore. -/

section Tables
variable (c : Dev nD) (d : Fin 4)

/-- No cell has a second round. -/
theorem no_duties {g : GSem nD τ sig} {r : ℕ} (hr : r ≠ 0) : (exRd (F := F) m).duties g r = ∅ := if_neg hr

/-- The barrier's units: one from each peer. -/
theorem bar_units : (exRd (F := F) m).expect (barCell c) 0 = 3 := by
  show (∑ _e ∈ ({1, 2, 3} : Finset (Fin 4)), 1) = 3
  decide
/-- A transfer's units: one slot's credit. -/
theorem dma_units (s : DmaSem sig) : (exRd (F := F) m).expect ((c : Thread nD τ), .dma s) 0 = N := by
  show (∑ _e ∈ ({0} : Finset (Fin 4)), N) = N
  exact Finset.sum_singleton _ _

/-- A send cell's payload. -/
theorem pay_send : payAt (F := F) m c 0 (.dma (sendS d)) = sendPay m c d := by
  have hd := d.isLt
  refine (if_pos (show 1 + d.val < 5 by omega)).trans (congrArg (sendPay m c) (Fin.ext ?_))
  show (1 + d.val - 1) % 4 = d.val
  omega
/-- A receive cell's payload. -/
theorem pay_recv : payAt (F := F) m c 0 (.dma (recvS d)) = recvPay m c d := by
  have hd := d.isLt
  refine (if_neg (show ¬ 5 + d.val < 5 by omega)).trans (congrArg (recvPay m c) (Fin.ext ?_))
  show (5 + d.val - 5) % 4 = d.val
  omega

/-- What is still to come of a cell's round, as one resource. -/
def toCome (s : SemLoc sig) : sProp 𝕄 :=
  bigSep ((exRd (F := F) m).duties ((c : Thread nD τ), s) 0 \ ∅) fun e => (exRd (F := F) m).payload ((c : Thread nD τ), s) 0 e

/-- The barrier's wait brings the three peers' slots. -/
theorem toCome_bar : toCome m c (.reg barS) = iprop(barPay c 1 ∗ barPay c 2 ∗ barPay c 3) :=
  (congrArg (fun S => bigSep S fun e => barPay (F := F) c e) (Finset.sdiff_empty (s := ({1, 2, 3} : Finset (Fin 4))))).trans
    (bigSep_eq_bigSepL_of_eq (S := ({1, 2, 3} : Finset (Fin 4))) [1, 2, 3] (by decide) (by decide) _)
/-- A transfer's wait brings the one payload. -/
theorem toCome_dma (s : DmaSem sig) : toCome m c (.dma s) = payAt m c 0 (.dma s) :=
  (congrArg (fun S => bigSep S fun e => payAt (F := F) m c e (.dma s)) (Finset.sdiff_empty (s := ({0} : Finset (Fin 4))))).trans
    bigSep_singleton

end Tables

/-! ## What each device owes at launch, and the levels -/

/-- The credit owed to the receive cell at distance `d`. -/
abbrev tR (c : Dev nD) (d : Fin 4) : CellTallies nD τ sig Unit := tallyAt (recvCell (sh c d) d) () N
/-- The unit owed to the barrier cell at distance `d`. -/
abbrev tB (c : Dev nD) (d : Fin 4) : CellTallies nD τ sig Unit := tallyAt (barCell (sh c d)) () 1
/-- Owed while the transfers are still to be sent. -/
def OR (c : Dev nD) : CellTallies nD τ sig Unit := tR c 3 + tR c 2 + tR c 1
/-- Owed at launch: the transfers and the three signals. -/
def O₀ (c : Dev nD) : CellTallies nD τ sig Unit := OR c + tB c 3 + tB c 2 + tB c 1

/-- The classes of a cell: one on a TensorCore, none elsewhere. -/
def L (g : GSem nD τ sig) : Finset Unit := if g.1.2 = .tc then {()} else ∅
/-- The level of a semaphore: barrier 1, receive 2, everything else 0. -/
def lvS : SemLoc sig → ℕ
  | .reg _ => 1
  | .dma s => if 5 ≤ s.val ∧ s.val < 9 then 2 else 0
/-- A cell's level is its semaphore's. -/
def lv (g : GSem nD τ sig) (_ : Unit) : ℕ := lvS g.2

/-- None elsewhere. -/
theorem L_of_ne (g : GSem nD τ sig) (h : g.1.2 ≠ .tc) : L g = ∅ := if_neg h
/-- One on a TensorCore. -/
theorem L_tc (c : Dev nD) (sm : SemLoc sig) : L ((c : Thread nD τ), sm) = {()} := if_pos rfl

/-- The level of a receive semaphore. -/
theorem lvS_recv (d : Fin 4) : lvS (.dma (recvS d)) = 2 := by
  have := d.isLt
  exact if_pos (show 5 ≤ 5 + d.val ∧ 5 + d.val < 9 by omega)

/-- A tally at one cell is positive at that cell only. -/
theorem tally_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

/-- Where a sum of tallies is positive, one of the two is. -/
theorem tally_add_pos {A B : CellTallies nD τ sig Unit} {g : GSem nD τ sig} {u : Unit} (h : 0 < (A + B) g u) : 0 < A g u ∨ 0 < B g u := by
  rw [Pi.add_apply, Finsupp.add_apply] at h; omega

/-- The transfers are owed to receive cells. -/
theorem OR_pos {c : Dev nD} {g : GSem nD τ sig} {u : Unit} (h : 0 < OR c g u) : ∃ d, g = recvCell (sh c d) d := by
  unfold OR at h
  rcases tally_add_pos h with h | h
  · rcases tally_add_pos h with h | h
    · exact ⟨3, tally_pos h⟩
    · exact ⟨2, tally_pos h⟩
  · exact ⟨1, tally_pos h⟩

/-- At launch only receive cells and barrier cells are owed anything. -/
theorem O₀_pos {c : Dev nD} {g : GSem nD τ sig} {u : Unit} (h : 0 < O₀ c g u) : (∃ d, g = recvCell (sh c d) d) ∨ ∃ d, g = barCell (sh c d) := by
  unfold O₀ at h
  rcases tally_add_pos h with h | h
  · rcases tally_add_pos h with h | h
    · rcases tally_add_pos h with h | h
      · exact .inl (OR_pos h)
      · exact .inr ⟨3, tally_pos h⟩
    · exact .inr ⟨2, tally_pos h⟩
  · exact .inr ⟨1, tally_pos h⟩

omit [FloatOps F] in
/-- A wait on a semaphore is allowed while everything owed is owed to TensorCore cells of a higher level. -/
theorem mayWait_below (c : Dev nD) (s : SemLoc sig) (O : CellTallies nD τ sig Unit)
    (hO : ∀ g u, 0 < O g u → g.1.2 = .tc ∧ lvS s < lvS g.2) : (levAts L lv : sProp 𝕄) ⊢ MayWait (c : Thread nD τ) s () O := by
  refine MayOwe.of_cut (L := L) (lev := lv) (lvS s) (fun p hp => ?_) (fun g u hg => ?_) (fun p hp => ?_) fun g u hg => (hO g u hg).2
  · cases Finset.mem_singleton.mp hp; rw [L_tc]; exact Finset.mem_singleton_self _
  · unfold L; rw [if_pos (hO g u hg).1]; exact Finset.mem_singleton_self _
  · cases Finset.mem_singleton.mp hp; exact le_rfl

omit [FloatOps F] in
/-- A wait on a semaphore of level 0 is allowed whatever of the launch's debts is still open. -/
theorem mayWait_low (c : Dev nD) (q : DmaSem sig) (hq : lvS (.dma q) = 0) (O : CellTallies nD τ sig Unit)
    (hO : ∀ g u, 0 < O g u → (∃ d, g = recvCell (sh c d) d) ∨ ∃ d, g = barCell (sh c d)) :
    (levAts L lv : sProp 𝕄) ⊢ MayWait (c : Thread nD τ) (.dma q) () O :=
  mayWait_below c _ O fun g u h => by
    rw [hq]
    rcases hO g u h with ⟨d, rfl⟩ | ⟨d, rfl⟩
    · exact ⟨rfl, by rw [lvS_recv]; decide⟩
    · exact ⟨rfl, Nat.one_pos⟩

omit [FloatOps F] in
/-- The barrier's wait is allowed while the three transfers are owed. -/
theorem mayWait_bar (c : Dev nD) : (levAts L lv : sProp 𝕄) ⊢ MayWait (c : Thread nD τ) (.reg barS) () (OR c) :=
  mayWait_below c _ _ fun g u h => by
    obtain ⟨d, rfl⟩ := OR_pos h
    exact ⟨rfl, by rw [lvS_recv]; decide⟩

end Cert.KernelIdeal.Exch

end
-- ==== Proof.Steps.lean ====
/-
# The steps of `KernelIdeal`'s body

One theorem per kind of effect the body has, each at a symbolic device and a symbolic distance, block or slot: the signal
to a peer's barrier, the wait on an exchange cell, the transfer of a row block, the local copies, the loads and the
stores.  The printed offsets and semaphores enter as variables with an equation, so that a step applies to the body's
own spelling of them.
-/
module

public import proofs.«01_k».proof.Proof.Sched

@[expose] public section

set_option maxRecDepth 16384

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-- No loop of the body needs a variant. -/
abbrev 𝒱₀ : Variants := Variants.none

/-- The body's weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole buffer of device `c` at contents `X`. -/
abbrev pts (c : Dev nD) (b : Ref sig .tc) (X : Buf (Elt F) ((c : Thread nD τ).loc b)) : sProp 𝕄 :=
  (((c : Thread nD τ).loc b) ↦{fullShare} X : sProp 𝕄)

/-- The cell `g` is allocated, under some name. -/
def Inv (g : GSem nD τ sig) : sProp 𝕄 := iprop(∃ κ, cellInv ER (exRd m) κ g)
/-- That may be used again and again. -/
instance Inv_persistent (g : GSem nD τ sig) : BI.Persistent (Inv m g) := by unfold Inv; infer_instance

/-! ## The exchange -/

section Exchange

variable (c : Dev nD) (d : Fin 4) {α : Type}

/-- What `c` hands over with its signal to distance `d`: its slot for the block of `c + d`. -/
theorem barPay_sh : barPay (F := F) (sh c d) d = iprop((∃ f, slotPts c (sh c d) f) ∗ reached ER (recvCell c (ng d)) 0) := by
  unfold barPay; rw [sh_ng]
/-- What `c`'s transfer to distance `d` makes there: the slot of number `c` holding the block. -/
theorem recvPay_sh : recvPay m (sh c d) d = slotPts (sh c d) c ((slotM c).view.rep (cb m (sh c d) c)) := by
  unfold recvPay; rw [sh_ng]

/-- The SIGNAL to distance `d`'s barrier: `c`'s slot for its block goes with it. -/
theorem wp_sig (n : Dev nD) (hn : n = sh c d) (hd : d ∈ ({1, 2, 3} : Finset (Fin 4))) {Q : α → sProp 𝕄} {k : PUnit → Prog (TpuEff nD τ sig (Elt F) Λ₀ .tc) α}
    (O : CellTallies nD τ sig Unit) {W : Waits sig Unit} (f : Buf (Elt F) ((slotM (sh c d)).view.loc (c : Thread nD τ))) :
    iprop(Inv m (barCell (sh c d)) ∗ owes (c : Thread nD τ) (O + tB c d) W ∗ dutyTok ER (barCell (sh c d)) 0 d
        ∗ slotPts c (sh c d) f ∗ reached ER (recvCell c (ng d)) 0 ∗ reached ER (barCell (sh c d)) 0)
      ⊢ iprop((owes (c : Thread nD τ) O W -∗ wpc c (k ⟨⟩) Q) -∗ wpc c (.op (.semSignal (n : Thread nD τ) barS (1#32 : BitVec 32).toNat) k) Q) := by
  subst hn
  unfold Inv
  iintro ⟨⟨%κ, HI⟩, HO, Ht, Hs, HrV, HrB⟩
  iapply (Rounds.wp_signal 𝒱₀ ER (exRd m) (c : Thread nD τ) none (dst := (sh c d : Thread nD τ)) (κ := κ) (r := 0)
      (d := d) hd rfl () O rfl)
  isplitl [HI]; · iexact HI
  isplitl [HO]; · iexact HO
  isplitl [Ht]; · iexact Ht
  isplitl [Hs HrV]
  · have hp := Entails.of_eq (barPay_sh (F := F) c d).symm
    change _ ⊢ (exRd m).payload (barCell (sh c d)) 0 d at hp
    iapply hp
    isplitl [Hs]; · iexists f; iexact Hs
    iexact HrV
  · iexact HrB

/-- A WAIT for the whole of an exchange cell: its round's payloads come, and the cell closes. -/
theorem wp_cell {w : TpuEff nD τ sig (Elt F) Λ₀ .tc PUnit} {sm : SemLoc sig} {k' : ℕ} {P : sProp 𝕄}
    (hw : ∀ K : PUnit → sProp 𝕄, wpE (defs₀ (F := F)) 𝒱₀ (c : Thread nD τ) none Set.univ w K = waitSpec (c : Thread nD τ) Set.univ sm k' K)
    (hk : k' = (exRd (F := F) m).expect ((c : Thread nD τ), sm) 0)
    (hP : toCome m c sm = P)
    {Q : α → sProp 𝕄} {k : PUnit → Prog (TpuEff nD τ sig (Elt F) Λ₀ .tc) α} {O : CellTallies nD τ sig Unit} {W : Waits sig Unit} :
    iprop(Inv m ((c : Thread nD τ), sm) ∗ cred (tallyAt ((c : Thread nD τ), sm) () k') ∗ owes (c : Thread nD τ) O W
        ∗ MayWait (c : Thread nD τ) sm () O ∗ atPos ER ((c : Thread nD τ), sm) 0 ∅ 0)
      ⊢ iprop((iprop(P ∗ semVal ((c : Thread nD τ), sm) 0 ∗ owes (c : Thread nD τ) O (insert (sm, ()) W)) -∗ wpc c (k ⟨⟩) Q)
          -∗ wpc c (.op w k) Q) := by
  subst hP
  unfold Inv toCome
  iintro ⟨⟨%κ, #HI⟩, Hc, HO, Hmw, Hat⟩ Hk
  iapply (Rounds.wp_wait_rest_token 𝒱₀ ER (exRd m) (c : Thread nD τ) none (κ := κ)
      hw (Set.mem_univ _) () (O := O) (W := W) (R := 0) (m := 0) (T := ∅) (by rw [Nat.zero_add]; exact hk)) $$ [Hc HO Hmw Hat]
  · isplitr; · iexact HI
    isplitl [Hc]; · iexact Hc
    isplitl [HO]; · iexact HO
    isplitl [Hmw]; · iexact Hmw
    iexact Hat
  iintro ⟨HO, Hat, -, Hpay⟩
  imod (Rounds.cell_close ER (exRd m) (Set.mem_univ κ) (fun h => h) (R := 0 + 1) (fun r hr => no_duties m (by omega))) $$ [Hat] with Hz
  · isplitr; · iexact HI
    iexact Hat
  iapply Hk
  isplitl [Hpay]; · iexact Hpay
  isplitl [Hz]; · iexact Hz
  iexact HO

/-- The wait on `c`'s BARRIER: the three peers' slots of number `c`. -/
theorem wp_bar {Q : α → sProp 𝕄} {k : PUnit → Prog (TpuEff nD τ sig (Elt F) Λ₀ .tc) α} {O : CellTallies nD τ sig Unit} {W : Waits sig Unit} :
    iprop(Inv m (barCell c) ∗ cred (tallyAt (barCell c) () 3) ∗ owes (c : Thread nD τ) O W
        ∗ MayWait (c : Thread nD τ) (.reg barS) () O ∗ atPos ER (barCell c) 0 ∅ 0)
      ⊢ iprop((iprop((barPay c 1 ∗ barPay c 2 ∗ barPay c 3) ∗ semVal (barCell c) 0 ∗ owes (c : Thread nD τ) O (insert (.reg barS, ()) W)) -∗ wpc c (k ⟨⟩) Q)
          -∗ wpc c (.op (.semWait barS (3#32 : BitVec 32).toNat) k) Q) :=
  wp_cell m c (wpE_semWait_eq 𝒱₀ (c : Thread nD τ) none Set.univ) (bar_units m c).symm (toCome_bar m c)

/-- The wait on a transfer's cell, nothing being owed any more: the one payload, and the cell closed. -/
theorem wp_landed {s s' : DmaSem sig} (hs : s = s') {P : sProp 𝕄} (hP : payAt m c 0 (.dma s') = P) {sp : Space} {sh₁ : Shape} {e₁ : EltTy}
    {sw : Memref sig .tc sp sh₁ e₁} {dw : Memref sig .tc .vmem S512x512 .bf16} {h₁ : sw.view.WordExact} {h₂ : dw.view.WordExact}
    {Q : α → sProp 𝕄} {k : PUnit → Prog (TpuEff nD τ sig (Elt F) Λ₀ .tc) α} {W : Waits sig Unit} :
    iprop(Inv m ((c : Thread nD τ), .dma s') ∗ cred (tallyAt ((c : Thread nD τ), .dma s') () N) ∗ owes (c : Thread nD τ) 0 W
        ∗ atPos ER ((c : Thread nD τ), .dma s') 0 ∅ 0)
      ⊢ iprop((iprop(P ∗ semVal ((c : Thread nD τ), .dma s') 0 ∗ owes (c : Thread nD τ) 0 (insert (.dma s', ()) W)) -∗ wpc c (k ⟨⟩) Q)
          -∗ wpc c (.op (.waitDma2 s sw dw h₁ h₂) k) Q) := by
  subst hs
  have hN : dw.view.dmaCredit = N := rfl
  iintro ⟨HI, Hc, HO, Hat⟩
  rw [← hN]
  iapply (wp_cell m c (wpE_waitDma2_eq 𝒱₀ (c : Thread nD τ) none Set.univ) (hN.trans (dma_units m c s).symm) ((toCome_dma m c s).trans hP))
  isplitl [HI]; · iexact HI
  isplitl [Hc]; · iexact Hc
  isplitl [HO]; · iexact HO
  isplitr; · rw [MayWait_zero]; iempintro
  iexact Hat

/-- The wait on `c`'s RECEIVE cell `d`: the slot of number `c - d`, holding the block that came. -/
theorem wp_rcv {s : DmaSem sig} (hs : s = recvS d) {sp : Space} {sh₁ : Shape} {e₁ : EltTy}
    {sw : Memref sig .tc sp sh₁ e₁} {dw : Memref sig .tc .vmem S512x512 .bf16} {h₁ : sw.view.WordExact} {h₂ : dw.view.WordExact}
    {Q : α → sProp 𝕄} {k : PUnit → Prog (TpuEff nD τ sig (Elt F) Λ₀ .tc) α} {W : Waits sig Unit} :
    iprop(Inv m (recvCell c d) ∗ cred (tallyAt (recvCell c d) () N) ∗ owes (c : Thread nD τ) 0 W ∗ atPos ER (recvCell c d) 0 ∅ 0)
      ⊢ iprop((iprop(recvPay m c d ∗ semVal (recvCell c d) 0 ∗ owes (c : Thread nD τ) 0 (insert (.dma (recvS d), ()) W)) -∗ wpc c (k ⟨⟩) Q)
          -∗ wpc c (.op (.waitDma2 s sw dw h₁ h₂) k) Q) :=
  wp_landed m c hs (pay_recv m c d)

/-- The wait on `c`'s SEND cell `d`: its row block back. -/
theorem wp_snw {s : DmaSem sig} (hs : s = sendS d) {sp : Space} {sh₁ : Shape} {e₁ : EltTy}
    {sw : Memref sig .tc sp sh₁ e₁} {dw : Memref sig .tc .vmem S512x512 .bf16} {h₁ : sw.view.WordExact} {h₂ : dw.view.WordExact}
    {Q : α → sProp 𝕄} {k : PUnit → Prog (TpuEff nD τ sig (Elt F) Λ₀ .tc) α} {W : Waits sig Unit} :
    iprop(Inv m (sendCell c d) ∗ cred (tallyAt (sendCell c d) () N) ∗ owes (c : Thread nD τ) 0 W ∗ atPos ER (sendCell c d) 0 ∅ 0)
      ⊢ iprop((iprop(sendPay m c d ∗ semVal (sendCell c d) 0 ∗ owes (c : Thread nD τ) 0 (insert (.dma (sendS d), ()) W)) -∗ wpc c (k ⟨⟩) Q)
          -∗ wpc c (.op (.waitDma2 s sw dw h₁ h₂) k) Q) :=
  wp_landed m c hs (pay_send m c d)

/-- The TRANSFER to distance `d`: row block `c + d` of the cast slab into the peer's slot of number `c`. -/
theorem wp_snd (n : Dev nD) (hn : n = sh c d) {off2 : Fin 2 → ℕ} {hb2 : ∀ a, off2 a + S512x512.size a ≤ S2048x512.size a}
    (h2 : off2 = ![512 * (sh c d).val, 0]) {off1 : Fin 3 → ℕ} {hb1 : ∀ a, off1 a + S1x512x512.size a ≤ S4x512x512.size a} (h1 : off1 = ![c.val, 0, 0])
    {sS sV : DmaSem sig} (hsS : sS = sendS d) (hsV : sV = recvS d)
    {hsc} {hsrc} {hdst} {hsem} {Q : α → sProp 𝕄} {k : PUnit → Prog (TpuEff nD τ sig (Elt F) Λ₀ .tc) α}
    (O : CellTallies nD τ sig Unit) {W : Waits sig Unit} (fn : Buf (Elt F) ((slotM c).view.loc (sh c d : Thread nD τ))) :
    iprop(Inv m (sendCell c d) ∗ Inv m (recvCell (sh c d) d) ∗ blkPts m c (sh c d) ∗ slotPts (sh c d) c fn
        ∗ owes (c : Thread nD τ) (O + tR c d) W ∗ dutyTok ER (sendCell c d) 0 0 ∗ reached ER (sendCell c d) 0
        ∗ dutyTok ER (recvCell (sh c d) d) 0 0 ∗ reached ER (recvCell (sh c d) d) 0)
      ⊢ iprop(((cred (tallyAt (sendCell c d) () N) ∗ owes (c : Thread nD τ) O W) -∗ wpc c (k ⟨⟩) Q)
          -∗ wpc c (.op (.enqueueDma (bM.slice (Rect.unit (s := S2048x512) off2 S512x512.size hb2) (fun _ => rfl))
              (.remote (Dev.tc n : Thread nD τ) ((cM.slice (Rect.unit (s := S4x512x512) off1 S1x512x512.size hb1) (fun _ => rfl)).squeeze S512x512 squeezes_S1x512x512_S512x512) (.dma sS) hsc)
              (.dma sV) hsrc hdst hsem) k) Q) := by
  subst hn h2 h1 hsS hsV
  unfold Inv blkPts slotPts
  iintro ⟨⟨%κ₁, HI₁⟩, ⟨%κ₂, HI₂⟩, Hr⟩
  iapply (Rounds.wp_send_pointsTo 𝒱₀ ER (exRd m) (c : Thread nD τ) none (c' := (sh c d : Thread nD τ)) (κ₁ := κ₁) (κ₂ := κ₂)
    (src := blkM (sh c d)) (dst := slotM c) (r₁ := 0) (r₂ := 0) (d₁ := 0) (d₂ := 0) (fs := xbC m c) (fd := fn)
    (Finset.mem_singleton_self _) (Finset.mem_singleton_self _)
    () () N rfl rfl rfl O rfl (W := W)
    (by exact Entails.of_eq (pay_send m c d).symm)
    (by refine BI.Entails.trans ?_ (Entails.of_eq ((pay_recv m (sh c d) d).trans (recvPay_sh m c d)).symm)
        exact pointsTo_rep_of_read (sh c d : Thread nD τ) (slotM c) _ fullShare _ (View.read_write_univ _ _)))
  isplitl [HI₁]; · iexact HI₁
  isplitl [HI₂]; · iexact HI₂
  iexact Hr

end Exchange

/-! ## The local copies -/

section Local

variable (c : Dev nD) {α : Type}

/-- The slab's copy in flight. -/
abbrev xFly : sProp 𝕄 :=
  Flight EC (c : Thread nD τ) (.dma xS) () (xM : Memref sig .tc .vmem S2048x512 .f32).view.dmaCredit (iprop(pts c cc0_scratch0 (xC m c) ∗ pts c main_arg0 (xC m c)))

/-- The COPY of the slab to VMEM. -/
theorem wp_xcopy {hsrc} {hdst} {hsem} {Q : α → sProp 𝕄} {k : PUnit → Prog (TpuEff nD τ sig (Elt F) Λ₀ .tc) α} (f : Buf (Elt F) ((c : Thread nD τ).loc cc0_scratch0)) :
    iprop(pts c main_arg0 (xC m c) ∗ pts c cc0_scratch0 f ∗ semVal ((c : Thread nD τ), .dma xS) 0)
      ⊢ iprop((xFly m c -∗ wpc c (k ⟨⟩) Q) -∗ wpc c (.op (.enqueueDma aM (.here xM) (.dma cc0_scratch6.sem) hsrc hdst hsem) k) Q) := by
  have h := Transfers.wp_dmaLocal EC 𝒱₀ (c : Thread nD τ) none (defs := defs₀ (F := F)) (src := aM) (via := .same) (dst := xM) (sm := .dma xS) (hsrc := hsrc) (hdst := hdst) (hsem := hsem) (k := k) (Q := Q)
    (q := fullShare) (fs := xC m c) (Sd := Finset.univ) (fd := f) () _ rfl (View.dmaCredit_pos _ (by decide)) (Finset.subset_univ _)
  have hw : xM.view.write (Elt F) f ((ReadAs.same : ReadAs (Elt F) S2048x512 .f32 S2048x512 .f32).apply (aM.view.read (Elt F) (xC m c))) Finset.univ = xC m c :=
    View.write_whole_univ cc0_scratch0 f (xC m c)
  have hs : aM.view.set = Finset.univ := View.set_whole main_arg0
  rw [hw, hs] at h
  exact h

/-- Its wait: the slab in VMEM, and the argument back. -/
theorem wp_xwait {hsrc} {hdst} {Q : α → sProp 𝕄} {k : PUnit → Prog (TpuEff nD τ sig (Elt F) Λ₀ .tc) α} {O : CellTallies nD τ sig Unit} {W : Waits sig Unit} :
    iprop(xFly m c ∗ owes (c : Thread nD τ) O W ∗ MayWait (c : Thread nD τ) (.dma xS) () O)
      ⊢ iprop((iprop((pts c cc0_scratch0 (xC m c) ∗ pts c main_arg0 (xC m c)) ∗ semVal ((c : Thread nD τ), .dma xS) 0 ∗ owes (c : Thread nD τ) O (insert (.dma xS, ()) W)) -∗ wpc c (k ⟨⟩) Q)
        -∗ wpc c (.op (.waitDma2 cc0_scratch6.sem aM xM hsrc hdst) k) Q) :=
  Transfers.wp_waitLocalO EC 𝒱₀ (c : Thread nD τ) none () rfl

/-- Row block `q` of device `c`'s `w_mat`. -/
def rowPts (q : Fin 4) : sProp 𝕄 := (rowM q).view.loc (c : Thread nD τ) ↦[(rowM q).view.set]{fullShare} (hC m c)
/-- Device `c`'s slot `j` of the fetched row blocks, at contents `f`. -/
def wslPts (j : Fin 4) (f : Buf (Elt F) ((wslM j).view.loc (c : Thread nD τ))) : sProp 𝕄 :=
  (wslM j).view.loc (c : Thread nD τ) ↦[(wslM j).view.set]{fullShare} f

/-- The copy of row block `q` into slot `j` in flight. -/
abbrev wFly (j q : Fin 4) (f : Buf (Elt F) ((wslM j).view.loc (c : Thread nD τ))) : sProp 𝕄 :=
  Flight EC (c : Thread nD τ) (.dma (wS j)) () (wslM 0).view.dmaCredit
    (iprop(wslPts c j ((wslM j).view.write (Elt F) f (wb m c q) Finset.univ) ∗ rowPts m c q))

/-- The COPY of row block `q` of `w_mat` into slot `j`. -/
theorem wp_wcopy (j q : Fin 4) {off : Fin 2 → ℕ} {hb : ∀ a, off a + S512x2048.size a ≤ S2048x2048.size a} (ho : off = ![512 * q.val, 0])
    {off' : Fin 3 → ℕ} {hb' : ∀ a, off' a + S1x512x2048.size a ≤ S4x512x2048.size a} (ho' : off' = ![j.val, 0, 0])
    {s : DmaSem sig} (hs : s = wS j) {hsrc} {hdst} {hsem} {Q : α → sProp 𝕄} {k : PUnit → Prog (TpuEff nD τ sig (Elt F) Λ₀ .tc) α} (f : Buf (Elt F) ((wslM j).view.loc (c : Thread nD τ))) :
    iprop(rowPts m c q ∗ wslPts c j f ∗ semVal ((c : Thread nD τ), .dma (wS j)) 0)
      ⊢ iprop((wFly m c j q f -∗ wpc c (k ⟨⟩) Q)
        -∗ wpc c (.op (.enqueueDma (hM.slice (Rect.unit (s := S2048x2048) off S512x2048.size hb) (fun _ => rfl))
            (.here ((wM.slice (Rect.unit (s := S4x512x2048) off' S1x512x2048.size hb') (fun _ => rfl)).squeeze S512x2048 squeezes_S1x512x2048_S512x2048))
            (.dma s) hsrc hdst hsem) k) Q) := by
  subst ho ho' hs
  exact Transfers.wp_dmaLocal EC 𝒱₀ (c : Thread nD τ) none (defs := defs₀ (F := F)) (src := rowM q) (via := .same) (dst := wslM j) (sm := .dma (wS j)) (hsrc := hsrc) (hdst := hdst) (hsem := hsem) (k := k) (Q := Q)
    (q := fullShare) (fs := hC m c) (Sd := (wslM j).view.set) (fd := f) () _ rfl (View.dmaCredit_pos _ (by decide)) (Finset.Subset.refl _)

/-- Its wait: the slot holding the row block, and the row block of the argument back. -/
theorem wp_wwait (j q : Fin 4) (f : Buf (Elt F) ((wslM j).view.loc (c : Thread nD τ))) {s : DmaSem sig} (hs : s = wS j)
    {sp : Space} {sh₁ : Shape} {e₁ : EltTy}
    {sw : Memref sig .tc sp sh₁ e₁} {dw : Memref sig .tc .vmem S512x2048 .f32} {h₁ : sw.view.WordExact} {h₂ : dw.view.WordExact}
    {Q : α → sProp 𝕄} {k : PUnit → Prog (TpuEff nD τ sig (Elt F) Λ₀ .tc) α} {W : Waits sig Unit} :
    iprop(wFly m c j q f ∗ owes (c : Thread nD τ) 0 W)
      ⊢ iprop((iprop(wslPts c j ((wslM j).view.rep (wb m c q)) ∗ rowPts m c q ∗ semVal ((c : Thread nD τ), .dma (wS j)) 0
            ∗ owes (c : Thread nD τ) 0 (insert (.dma (wS j), ()) W)) -∗ wpc c (k ⟨⟩) Q)
        -∗ wpc c (.op (.waitDma2 s sw dw h₁ h₂) k) Q) := by
  subst hs
  have hN : dw.view.dmaCredit = (wslM 0).view.dmaCredit := rfl
  iintro ⟨HF, HO⟩ Hk
  iapply (Transfers.wp_waitLocalO EC 𝒱₀ (c : Thread nD τ) none () hN (O := 0)) $$ [HF HO]
  · isplitl [HF]; · iexact HF
    isplitl [HO]; · iexact HO
    rw [MayWait_zero]; iempintro
  iintro ⟨⟨Hw, Hr⟩, Hz, HO⟩
  iapply Hk
  isplitl [Hw]
  · unfold wslPts
    iapply (pointsTo_rep_of_read (c : Thread nD τ) (wslM j) _ fullShare (wb m c q) (View.read_write_univ _ _)); iexact Hw
  isplitl [Hr]; · iexact Hr
  isplitl [Hz]; · iexact Hz
  iexact HO

end Local

/-! ## Loads and stores -/

section Access

variable (c : Dev nD) {α : Type}

omit [FloatOps F] in
/-- The printed zero offsets. -/
theorem hz2 : (![0, 0] : Fin 2 → Nat) = fun _ => 0 := funext fun a => by fin_cases a <;> rfl

/-- The load of the whole slab. -/
theorem wp_ldX {hb : ∀ a, (![0, 0] : Fin 2 → ℕ) a + S2048x512.size a ≤ S2048x512.size a} {hl} {Q : α → sProp 𝕄} {k : ((Rect.unit (s := S2048x512) ![0, 0] S2048x512.size hb).shape.Idx → Elt F .f32) → Prog (TpuEff nD τ sig (Elt F) Λ₀ .tc) α} (f : Buf (Elt F) ((c : Thread nD τ).loc cc0_scratch0)) :
    pts c cc0_scratch0 f ⊢ iprop((pts c cc0_scratch0 f -∗ wpc c (k f) Q)
      -∗ wpc c (.op (.load xM (Rect.unit (s := S2048x512) ![0, 0] S2048x512.size hb).toLoadRect hl) k) Q) := by
  have h := wp_load (defs := defs₀ (F := F)) (Γ := []) 𝒱₀ (c : Thread nD τ) none Set.univ (m := xM) (r := (Rect.unit (s := S2048x512) ![0, 0] S2048x512.size hb).toLoadRect) (hl := hl) (k := k) (Q := Q)
    (S := Finset.univ) (q := fullShare) (f := f) (Finset.subset_univ _)
  rw [show xM.view.readAt (Elt F) (Rect.unit (s := S2048x512) ![0, 0] S2048x512.size hb).toLoadRect f = f from Memref.readAt_unit_zero (Elt F) cc0_scratch0 hz2 _ f] at h
  exact h

/-- The load of row block `c` of the slab. -/
theorem wp_ldXd {off : Fin 2 → ℕ} {hb : ∀ a, off a + S512x512.size a ≤ S2048x512.size a} (ho : off = ![512 * c.val, 0])
    {hl} {Q : α → sProp 𝕄} {k : ((Rect.unit (s := S2048x512) off S512x512.size hb).shape.Idx → Elt F .f32) → Prog (TpuEff nD τ sig (Elt F) Λ₀ .tc) α} :
    pts c cc0_scratch0 (xC m c) ⊢ iprop((pts c cc0_scratch0 (xC m c) -∗ wpc c (k (xd m c)) Q)
      -∗ wpc c (.op (.load xM (Rect.unit (s := S2048x512) off S512x512.size hb).toLoadRect hl) k) Q) := by
  subst ho
  exact wp_load (defs := defs₀ (F := F)) (Γ := []) 𝒱₀ (c : Thread nD τ) none Set.univ (m := xM) (Finset.subset_univ _)

/-- The load of the whole cast slab's buffer. -/
theorem wp_ldB {hb : ∀ a, (![0, 0] : Fin 2 → ℕ) a + S2048x512.size a ≤ S2048x512.size a} {hl} {Q : α → sProp 𝕄} {k : ((Rect.unit (s := S2048x512) ![0, 0] S2048x512.size hb).shape.Idx → Elt F .bf16) → Prog (TpuEff nD τ sig (Elt F) Λ₀ .tc) α} (f : Buf (Elt F) ((c : Thread nD τ).loc cc0_scratch1)) :
    pts c cc0_scratch1 f ⊢ iprop((pts c cc0_scratch1 f -∗ wpc c (k f) Q)
      -∗ wpc c (.op (.load bM (Rect.unit (s := S2048x512) ![0, 0] S2048x512.size hb).toLoadRect hl) k) Q) := by
  have h := wp_load (defs := defs₀ (F := F)) (Γ := []) 𝒱₀ (c : Thread nD τ) none Set.univ (m := bM) (r := (Rect.unit (s := S2048x512) ![0, 0] S2048x512.size hb).toLoadRect) (hl := hl) (k := k) (Q := Q)
    (S := Finset.univ) (q := fullShare) (f := f) (Finset.subset_univ _)
  rw [show bM.view.readAt (Elt F) (Rect.unit (s := S2048x512) ![0, 0] S2048x512.size hb).toLoadRect f = f from Memref.readAt_unit_zero (Elt F) cc0_scratch1 hz2 _ f] at h
  exact h

/-- The store of the whole cast slab, the stored value known to be `X`. -/
theorem wp_stB {hb : ∀ a, (![0, 0] : Fin 2 → ℕ) a + S2048x512.size a ≤ S2048x512.size a} {w : FVec F S2048x512 .bf16} {hx} {hm} {Q : α → sProp 𝕄} {k : PUnit → Prog (TpuEff nD τ sig (Elt F) Λ₀ .tc) α}
    (X : FVec F S2048x512 .bf16) (hw : w = X) (f : Buf (Elt F) ((c : Thread nD τ).loc cc0_scratch1)) :
    pts c cc0_scratch1 f ⊢ iprop((pts c cc0_scratch1 X -∗ wpc c (k ⟨⟩) Q)
      -∗ wpc c (.op (.store bM (Rect.unit (s := S2048x512) ![0, 0] S2048x512.size hb) w Finset.univ hx hm) k) Q) := by
  subst hw
  have h := wp_store (defs := defs₀ (F := F)) (Γ := []) 𝒱₀ (c : Thread nD τ) none Set.univ (m := bM) (r := Rect.unit (s := S2048x512) ![0, 0] S2048x512.size hb) (w := w) (Mk := Finset.univ) (hx := hx) (hm := hm) (k := k) (Q := Q)
    (S := Finset.univ) (f := f) (Finset.subset_univ _)
  rw [show (bM.access (Rect.unit (s := S2048x512) ![0, 0] S2048x512.size hb) : View sig .tc _ _ _).write (Elt F) f w Finset.univ = w from Memref.write_access_unit_zero_univ (Elt F) cc0_scratch1 hz2 _ f w] at h
  exact h

/-- The load of the whole result block. -/
theorem wp_ldO {hb : ∀ a, (![0, 0] : Fin 2 → ℕ) a + S512x2048.size a ≤ S512x2048.size a} {hl} {Q : α → sProp 𝕄} {k : ((Rect.unit (s := S512x2048) ![0, 0] S512x2048.size hb).shape.Idx → Elt F .f32) → Prog (TpuEff nD τ sig (Elt F) Λ₀ .tc) α} (f : Buf (Elt F) ((c : Thread nD τ).loc cc0_stg0_0)) :
    pts c cc0_stg0_0 f ⊢ iprop((pts c cc0_stg0_0 f -∗ wpc c (k f) Q)
      -∗ wpc c (.op (.load oM (Rect.unit (s := S512x2048) ![0, 0] S512x2048.size hb).toLoadRect hl) k) Q) := by
  have h := wp_load (defs := defs₀ (F := F)) (Γ := []) 𝒱₀ (c : Thread nD τ) none Set.univ (m := oM) (r := (Rect.unit (s := S512x2048) ![0, 0] S512x2048.size hb).toLoadRect) (hl := hl) (k := k) (Q := Q)
    (S := Finset.univ) (q := fullShare) (f := f) (Finset.subset_univ _)
  rw [show oM.view.readAt (Elt F) (Rect.unit (s := S512x2048) ![0, 0] S512x2048.size hb).toLoadRect f = f from Memref.readAt_unit_zero (Elt F) cc0_stg0_0 hz2 _ f] at h
  exact h

/-- The store of the whole result block, the stored value known to be `X`. -/
theorem wp_stO {hb : ∀ a, (![0, 0] : Fin 2 → ℕ) a + S512x2048.size a ≤ S512x2048.size a} {w : FVec F S512x2048 .f32} {hx} {hm} {Q : α → sProp 𝕄} {k : PUnit → Prog (TpuEff nD τ sig (Elt F) Λ₀ .tc) α}
    (X : FVec F S512x2048 .f32) (hw : w = X) (f : Buf (Elt F) ((c : Thread nD τ).loc cc0_stg0_0)) :
    pts c cc0_stg0_0 f ⊢ iprop((pts c cc0_stg0_0 X -∗ wpc c (k ⟨⟩) Q)
      -∗ wpc c (.op (.store oM (Rect.unit (s := S512x2048) ![0, 0] S512x2048.size hb) w Finset.univ hx hm) k) Q) := by
  subst hw
  have h := wp_store (defs := defs₀ (F := F)) (Γ := []) 𝒱₀ (c : Thread nD τ) none Set.univ (m := oM) (r := Rect.unit (s := S512x2048) ![0, 0] S512x2048.size hb) (w := w) (Mk := Finset.univ) (hx := hx) (hm := hm) (k := k) (Q := Q)
    (S := Finset.univ) (f := f) (Finset.subset_univ _)
  rw [show (oM.access (Rect.unit (s := S512x2048) ![0, 0] S512x2048.size hb) : View sig .tc _ _ _).write (Elt F) f w Finset.univ = w from Memref.write_access_unit_zero_univ (Elt F) cc0_stg0_0 hz2 _ f w] at h
  exact h

/-- The load of landing slot `q`: up to the leading axis it reads what the slot holds. -/
theorem wp_ldC (q : Fin 4) (X : FVec F S512x512 .bf16) {off : Fin 3 → ℕ} {hb : ∀ a, off a + S1x512x512.size a ≤ S4x512x512.size a} (ho : off = ![q.val, 0, 0])
    {hl} {Q : α → sProp 𝕄} {k : ((Rect.unit (s := S4x512x512) off S1x512x512.size hb).shape.Idx → Elt F .bf16) → Prog (TpuEff nD τ sig (Elt F) Λ₀ .tc) α} :
    slotPts c q ((slotM q).view.rep X)
      ⊢ iprop((∀ v, ⌜shapeCast S512x512 v shapeCasts_S1x512x512_S512x512 = X⌝ -∗ slotPts c q ((slotM q).view.rep X) -∗ wpc c (k v) Q)
        -∗ wpc c (.op (.load cM (Rect.unit (s := S4x512x512) off S1x512x512.size hb).toLoadRect hl) k) Q) := by
  subst ho
  unfold slotPts
  iintro Hp Hk
  iapply (wp_load (defs := defs₀ (F := F)) (Γ := []) 𝒱₀ (c : Thread nD τ) none Set.univ (m := cM)
    (S := (slotM q).view.set) ((View.set_reshape _ _).trans (View.set_slice cM.view (Rect.unit (s := S4x512x512) ![q.val, 0, 0] S1x512x512.size (slot_inb q)))).symm.subset) $$ Hp
  iintro Hp
  iapply Hk
  · ipureintro; exact View.read_rep (Val := Elt F) (slotM q).view X
  iexact Hp

/-- The same for the row blocks of `w_mat`. -/
theorem wp_ldW (j : Fin 4) (X : FVec F S512x2048 .f32) {off : Fin 3 → ℕ} {hb : ∀ a, off a + S1x512x2048.size a ≤ S4x512x2048.size a} (ho : off = ![j.val, 0, 0])
    {hl} {Q : α → sProp 𝕄} {k : ((Rect.unit (s := S4x512x2048) off S1x512x2048.size hb).shape.Idx → Elt F .f32) → Prog (TpuEff nD τ sig (Elt F) Λ₀ .tc) α} :
    wslPts c j ((wslM j).view.rep X)
      ⊢ iprop((∀ v, ⌜shapeCast S512x2048 v shapeCasts_S1x512x2048_S512x2048 = X⌝ -∗ wslPts c j ((wslM j).view.rep X) -∗ wpc c (k v) Q)
        -∗ wpc c (.op (.load wM (Rect.unit (s := S4x512x2048) off S1x512x2048.size hb).toLoadRect hl) k) Q) := by
  subst ho
  unfold wslPts
  iintro Hp Hk
  iapply (wp_load (defs := defs₀ (F := F)) (Γ := []) 𝒱₀ (c : Thread nD τ) none Set.univ (m := wM)
    (S := (wslM j).view.set) ((View.set_reshape _ _).trans (View.set_slice wM.view (Rect.unit (s := S4x512x2048) ![j.val, 0, 0] S1x512x2048.size (wsl_inb j)))).symm.subset) $$ Hp
  iintro Hp
  iapply Hk
  · ipureintro; exact View.read_rep (Val := Elt F) (wslM j).view X
  iexact Hp

end Access

/-! ## The payloads by their values -/

/-- The first stored value is the device's own contribution. -/
theorem pay2_eq (c : Dev nD) (w : FVec F S1x512x2048 .f32) (hw : shapeCast S512x2048 w shapeCasts_S1x512x2048_S512x2048 = wb m c c) :
    k0_pay2 (xd m c) w = acc0 m c := by
  unfold acc0; rw [← hw]; rfl
/-- The second stored value: the contribution of `q` added. -/
theorem pay3_eq (c q : Dev nD) (acc : FVec F S512x2048 .f32) (v : FVec F S1x512x512 .bf16) (w : FVec F S1x512x2048 .f32)
    (hv : shapeCast S512x512 v shapeCasts_S1x512x512_S512x512 = cb m c q) (hw : shapeCast S512x2048 w shapeCasts_S1x512x2048_S512x2048 = wb m c q) :
    k0_pay3 acc v w = accAdd m c q acc := by
  unfold accAdd; rw [← hv, ← hw]; unfold k0_pay3; rw [shapeCast_self]; rfl
/-- The third stored value: the contribution of `q` added. -/
theorem pay4_eq (c q : Dev nD) (acc : FVec F S512x2048 .f32) (v : FVec F S1x512x512 .bf16) (w : FVec F S1x512x2048 .f32)
    (hv : shapeCast S512x512 v shapeCasts_S1x512x512_S512x512 = cb m c q) (hw : shapeCast S512x2048 w shapeCasts_S1x512x2048_S512x2048 = wb m c q) :
    k0_pay4 acc v w = accAdd m c q acc := pay3_eq m c q acc v w hv hw
/-- The fourth stored value: the contribution of `q` added. -/
theorem pay5_eq (c q : Dev nD) (acc : FVec F S512x2048 .f32) (v : FVec F S1x512x512 .bf16) (w : FVec F S1x512x2048 .f32)
    (hv : shapeCast S512x512 v shapeCasts_S1x512x512_S512x512 = cb m c q) (hw : shapeCast S512x2048 w shapeCasts_S1x512x2048_S512x2048 = wb m c q) :
    k0_pay5 acc v w = accAdd m c q acc := pay3_eq m c q acc v w hv hw

end Cert.KernelIdeal.Exch

end
-- ==== Proof.Body.lean ====
/-
# `KernelIdeal`'s body, run once at a symbolic device

What each device starts from and ends with, and the body executed between the two, one step per effect in program order.
-/
module

public import proofs.«01_k».proof.Proof.Steps

@[expose] public section

set_option maxRecDepth 16384

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the four blocks, cut and joined -/

omit [FloatOps F] in
/-- A family over the four devices, listed from `c` around the ring. -/
theorem bigSep_at (c : Dev nD) (Φ : Fin 4 → sProp 𝕄) : bigSep Finset.univ Φ = iprop(Φ c ∗ Φ (sh c 1) ∗ Φ (sh c 2) ∗ Φ (sh c 3)) := by
  rw [bigSep_univ_eq_bigSepL [c, sh c 1, sh c 2, sh c 3] (by revert c; decide) (by revert c; decide) Φ,
    bigSepL_cons_cons, bigSepL_cons_cons, bigSepL_cons_cons, bigSepL_singleton]
  rfl
omit [FloatOps F] in
/-- The landing buffer is its four slots. -/
theorem slots_eq (c : Dev nD) (f : Buf (Elt F) ((c : Thread nD τ).loc cc0_scratch2)) :
    pts c cc0_scratch2 f = iprop(slotPts c c f ∗ slotPts c (sh c 1) f ∗ slotPts c (sh c 2) f ∗ slotPts c (sh c 3) f) :=
  (Ring.pointsTo_blocks (ℓ := (c : Thread nD τ).loc cc0_scratch2) (fun q : Fin 4 => (slotM q).view.set) slot_disjoint slot_cover f).trans (bigSep_at c _)
omit [FloatOps F] in
/-- And back from its slots, whatever they hold. -/
theorem slots_join (c : Dev nD) (f₀ : Buf (Elt F) ((c : Thread nD τ).loc cc0_scratch2)) :
    iprop((∃ f, slotPts (F := F) c c f) ∗ (∃ f, slotPts (F := F) c (sh c 1) f) ∗ (∃ f, slotPts (F := F) c (sh c 2) f) ∗ (∃ f, slotPts (F := F) c (sh c 3) f))
      ⊢ (∃ g, pts (F := F) c cc0_scratch2 g : sProp 𝕄) := by
  have h := Ring.pointsTo_blocks_join_exists (Ix := Unit) (Name := ℕ) (U := UU) (Lvl := ℕ) (ℓ := (c : Thread nD τ).loc cc0_scratch2) (q := fullShare) (fun q : Fin 4 => (slotM q).view.set) slot_disjoint slot_cover f₀
  rw [bigSep_at c] at h
  exact h
omit [FloatOps F] in
/-- The buffer of the fetched row blocks is its four slots. -/
theorem wsl_eq (c : Dev nD) (f : Buf (Elt F) ((c : Thread nD τ).loc cc0_scratch3)) :
    pts c cc0_scratch3 f = iprop(wslPts c 0 f ∗ wslPts c 1 f ∗ wslPts c 2 f ∗ wslPts c 3 f) :=
  (Ring.pointsTo_blocks (ℓ := (c : Thread nD τ).loc cc0_scratch3) (fun q : Fin 4 => (wslM q).view.set) wsl_disjoint wsl_cover f).trans (bigSep_at 0 _)
omit [FloatOps F] in
/-- And back from its slots, whatever they hold. -/
theorem wsl_join (c : Dev nD) (f₀ : Buf (Elt F) ((c : Thread nD τ).loc cc0_scratch3)) :
    iprop((∃ f, wslPts (F := F) c 0 f) ∗ (∃ f, wslPts (F := F) c 1 f) ∗ (∃ f, wslPts (F := F) c 2 f) ∗ (∃ f, wslPts (F := F) c 3 f))
      ⊢ (∃ g, pts (F := F) c cc0_scratch3 g : sProp 𝕄) := by
  have h := Ring.pointsTo_blocks_join_exists (Ix := Unit) (Name := ℕ) (U := UU) (Lvl := ℕ) (ℓ := (c : Thread nD τ).loc cc0_scratch3) (q := fullShare) (fun q : Fin 4 => (wslM q).view.set) wsl_disjoint wsl_cover f₀
  rw [bigSep_at 0] at h
  exact h
/-- The cast slab is its four row blocks. -/
theorem blks_eq (c : Dev nD) : pts c cc0_scratch1 (xbC m c) = iprop(blkPts m c c ∗ blkPts m c (sh c 1) ∗ blkPts m c (sh c 2) ∗ blkPts m c (sh c 3)) :=
  (Ring.pointsTo_blocks (ℓ := (c : Thread nD τ).loc cc0_scratch1) (fun q : Fin 4 => (blkM q).view.set) blk_disjoint blk_cover (xbC m c)).trans (bigSep_at c _)
/-- `w_mat` is its four row blocks. -/
theorem rows_eq (c : Dev nD) : pts c main_arg1 (hC m c) = iprop(rowPts m c c ∗ rowPts m c (sh c 1) ∗ rowPts m c (sh c 2) ∗ rowPts m c (sh c 3)) :=
  (Ring.pointsTo_blocks (ℓ := (c : Thread nD τ).loc main_arg1) (fun q : Fin 4 => (rowM q).view.set) row_disjoint row_cover (hC m c)).trans (bigSep_at c _)

/-! ## What the body starts from and ends with -/

/-- The exchange's ghost state of device `c` at distance `d`: the four cells it meets there, their marks, its positions on
    its own two and the three duties it pays. -/
def gh (c : Dev nD) (d : Fin 4) : sProp 𝕄 :=
  iprop((Inv m (sendCell c d) ∗ Inv m (recvCell c d) ∗ Inv m (barCell (sh c d)) ∗ Inv m (recvCell (sh c d) d))
    ∗ (reached ER (barCell (sh c d)) 0 ∗ reached ER (sendCell c d) 0 ∗ reached ER (recvCell c d) 0)
    ∗ atPos ER (sendCell c d) 0 ∅ 0 ∗ atPos ER (recvCell c d) 0 ∅ 0
    ∗ dutyTok ER (barCell (sh c d)) 0 d ∗ dutyTok ER (recvCell (sh c d) d) 0 0 ∗ dutyTok ER (sendCell c d) 0 0)

/-- All of it: its own barrier cell too. -/
def ghost (c : Dev nD) : sProp 𝕄 :=
  iprop((Inv m (barCell c) ∗ atPos ER (barCell c) 0 ∅ 0) ∗ gh m c 1 ∗ gh m c 2 ∗ gh m c 3)

/-- The credit device `c` waits with. -/
def crs (c : Dev nD) : sProp 𝕄 :=
  iprop(cred (tallyAt (barCell c) () 3) ∗ cred (tallyAt (recvCell c 1) () N) ∗ cred (tallyAt (recvCell c 2) () N) ∗ cred (tallyAt (recvCell c 3) () N))

/-- The ghost state, the credit and the levels. -/
def start (c : Dev nD) : sProp 𝕄 := iprop(ghost m c ∗ crs c ∗ levAts L lv)

/-- The counters of the local copies' semaphores, at zero. -/
def lz (c : Dev nD) : sProp 𝕄 :=
  iprop(semVal ((c : Thread nD τ), .dma xS) 0 ∗ semVal ((c : Thread nD τ), .dma (wS 0)) 0 ∗ semVal ((c : Thread nD τ), .dma (wS 1)) 0
    ∗ semVal ((c : Thread nD τ), .dma (wS 2)) 0 ∗ semVal ((c : Thread nD τ), .dma (wS 3)) 0)
/-- The two counters no transfer uses (distance 0), at zero. -/
def sz (c : Dev nD) : sProp 𝕄 := iprop(semVal (sendCell c 0) 0 ∗ semVal (recvCell c 0) 0)
/-- The exchange's counters, at zero. -/
def xz (c : Dev nD) : sProp 𝕄 :=
  iprop(semVal (barCell c) 0 ∗ (semVal (sendCell c 1) 0 ∗ semVal (sendCell c 2) 0 ∗ semVal (sendCell c 3) 0)
    ∗ semVal (recvCell c 1) 0 ∗ semVal (recvCell c 2) 0 ∗ semVal (recvCell c 3) 0)

/-- The two arguments, as launched. -/
def args (c : Dev nD) : sProp 𝕄 := iprop(pts c main_arg0 (xC m c) ∗ pts c main_arg1 (hC m c))
/-- The four VMEM scratches, at any contents. -/
def scr (c : Dev nD) : sProp 𝕄 :=
  iprop((∃ f, pts (F := F) c cc0_scratch0 f) ∗ (∃ f, pts (F := F) c cc0_scratch1 f) ∗ (∃ f, pts (F := F) c cc0_scratch2 f) ∗ ∃ f, pts (F := F) c cc0_scratch3 f)

/-- Before the body: the exchange's ghost state, the arguments, the scratches, the counters no cell owns. -/
def Φ₀ (c : Dev nD) : sProp 𝕄 := iprop(start m c ∗ args m c ∗ scr c ∗ lz c ∗ sz c)
/-- After it: the arguments, the scratches, and every counter at zero. -/
def Φ₁ (c : Dev nD) : sProp 𝕄 := iprop(args m c ∗ scr c ∗ xz c ∗ lz c ∗ sz c)

/-- The pipeline's data: one window, the result block. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The grid has one point. -/
theorem cfg0_N : cfg0.N = 1 := by decide
set_option backward.proofsInPublic true in
/-- The one point of the grid. -/
def t₀ : Fin cfg0.N := ⟨0, by rw [cfg0_N]; decide⟩
/-- There is no other. -/
theorem fin_N (t : Fin cfg0.N) : t = t₀ :=
  Fin.ext (Nat.lt_one_iff.mp (cfg0_N ▸ t.isLt))

/-- The staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body. -/
def bodyPre (c : Dev nD) : sProp 𝕄 :=
  iprop(Φ₀ m c ∗ (dats m ρ 0 c).owesAt () t₀.castSucc ∗ (∃ d, stg c cc0_stg0_0 ((dats m ρ 0 c).before (0 : Fin 1) t₀ d)))
/-- What it wants back. -/
def bodyPost (c : Dev nD) : sProp 𝕄 :=
  iprop(Φ₁ m c ∗ (dats m ρ 0 c).owesAt () t₀.succ ∗ stg c cc0_stg0_0 (outAt m c))

/-- What comes from distance 1 before. -/
theorem recvPay_1 (c : Dev nD) : recvPay m c 1 = slotPts c (sh c 3) ((slotM (sh c 3)).view.rep (cb m c (sh c 3))) := rfl
/-- What comes from distance 2 before. -/
theorem recvPay_2 (c : Dev nD) : recvPay m c 2 = slotPts c (sh c 2) ((slotM (sh c 2)).view.rep (cb m c (sh c 2))) := rfl
/-- What comes from distance 3 before. -/
theorem recvPay_3 (c : Dev nD) : recvPay m c 3 = slotPts c (sh c 1) ((slotM (sh c 1)).view.rep (cb m c (sh c 1))) := rfl
omit [FloatOps F] in
/-- What the signal from distance 1 before brings. -/
theorem barPay_1 (c : Dev nD) : barPay (F := F) c 1 = iprop((∃ f, slotPts (sh c 3) c f) ∗ reached ER (recvCell (sh c 3) 3) 0) := rfl
omit [FloatOps F] in
/-- What the signal from distance 2 before brings. -/
theorem barPay_2 (c : Dev nD) : barPay (F := F) c 2 = iprop((∃ f, slotPts (sh c 2) c f) ∗ reached ER (recvCell (sh c 2) 2) 0) := rfl
omit [FloatOps F] in
/-- What the signal from distance 3 before brings. -/
theorem barPay_3 (c : Dev nD) : barPay (F := F) c 3 = iprop((∃ f, slotPts (sh c 1) c f) ∗ reached ER (recvCell (sh c 1) 1) 0) := rfl

set_option maxHeartbeats 8000000 in
/-- The body, symbolically executed from `bodyPre`, one rule per effect in program order, to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body aM (Memref.isWhole_whole _) hM (Memref.isWhole_whole _) oM (Memref.isWhole_whole _) xM (Memref.isWhole_whole _) bM (Memref.isWhole_whole _)
            cM (Memref.isWhole_whole _) wM (Memref.isWhole_whole _) cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold bodyPre Φ₀ start ghost gh crs args scr lz sz
  iintro ⟨⟨⟨⟨⟨⟨#HIb, HatB⟩, ⟨⟨#HIs1, #HIr1, #HIb1, #HIp1⟩, ⟨#Hmb1, #Hms1, #Hmr1⟩, Has1, Har1, Htb1, Htr1, Hts1⟩,
      ⟨⟨#HIs2, #HIr2, #HIb2, #HIp2⟩, ⟨#Hmb2, #Hms2, #Hmr2⟩, Has2, Har2, Htb2, Htr2, Hts2⟩,
      ⟨⟨#HIs3, #HIr3, #HIb3, #HIp3⟩, ⟨#Hmb3, #Hms3, #Hmr3⟩, Has3, Har3, Htb3, Htr3, Hts3⟩⟩,
      ⟨HcB, HcR1, HcR2, HcR3⟩, #Hlev⟩, ⟨Ha, Hh⟩, ⟨⟨%f0, Hx⟩, ⟨%f1, Hb⟩, ⟨%f2, Hc⟩, ⟨%f3, Hw⟩⟩, ⟨HzX, HzW0, HzW1, HzW2, HzW3⟩, Hsz⟩,
    Ho, ⟨%d0, %g0, %hg0, Hout⟩⟩, Hk⟩
  clear hg0
  unfold Dat.owesAt Pipeline.owesWithin
  icases Ho with ⟨%W, %hW, HO⟩
  rw [show (dats m ρ 0 c).owed t₀.castSucc = O₀ c from rfl]
  unfold O₀
  ihave Hc := (Entails.of_eq (slots_eq c f2)) $$ Hc
  icases Hc with ⟨Hc0, Hc1, Hc2, Hc3⟩
  -- the three SIGNALS: each peer gets the slot for its block
  iapply (wp_sig m c 1 _ (dev1_eq c) (by decide) (OR c + tB c 3 + tB c 2) f2) $$ [HO Htb1 Hc1]
  · isplitr; · iexact HIb1
    isplitl [HO]; · iexact HO
    isplitl [Htb1]; · iexact Htb1
    isplitl [Hc1]; · iexact Hc1
    isplitr; · iexact Hmr3
    iexact Hmb1
  iintro HO
  iapply (wp_sig m c 2 _ (dev2_eq c) (by decide) (OR c + tB c 3) f2) $$ [HO Htb2 Hc2]
  · isplitr; · iexact HIb2
    isplitl [HO]; · iexact HO
    isplitl [Htb2]; · iexact Htb2
    isplitl [Hc2]; · iexact Hc2
    isplitr; · iexact Hmr2
    iexact Hmb2
  iintro HO
  iapply (wp_sig m c 3 _ (dev3_eq c) (by decide) (OR c) f2) $$ [HO Htb3 Hc3]
  · isplitr; · iexact HIb3
    isplitl [HO]; · iexact HO
    isplitl [Htb3]; · iexact Htb3
    isplitl [Hc3]; · iexact Hc3
    isplitr; · iexact Hmr1
    iexact Hmb3
  iintro HO
  -- the BARRIER's wait: the three peers' slots for this device's blocks
  iapply (wp_bar m c) $$ [HcB HO HatB]
  · isplitr; · iexact HIb
    isplitl [HcB]; · iexact HcB
    isplitl [HO]; · iexact HO
    isplitr; · iapply (mayWait_bar c); iexact Hlev
    iexact HatB
  rw [barPay_1, barPay_2, barPay_3]
  iintro ⟨⟨⟨⟨%p3, Hp3⟩, #Hmp3⟩, ⟨⟨%p2, Hp2⟩, #Hmp2⟩, ⟨⟨%p1, Hp1⟩, #Hmp1⟩⟩, HzB, HO⟩
  -- the slab's copy to VMEM and its wait
  iapply (wp_xcopy m c f0) $$ [Ha Hx HzX]
  · isplitl [Ha]; · iexact Ha
    isplitl [Hx]; · iexact Hx
    iexact HzX
  iintro HF
  iapply (wp_xwait m c) $$ [HF HO]
  · isplitl [HF]; · iexact HF
    isplitl [HO]; · iexact HO
    iapply (mayWait_low c xS rfl (OR c) (fun g u h => .inl (OR_pos h))); iexact Hlev
  iintro ⟨⟨Hx, Ha⟩, HzX, HO⟩
  -- the cast
  iapply (wp_ldX c) $$ Hx; iintro Hx
  iapply (wp_ldB c) $$ Hb; iintro Hb
  iapply (wp_stB c (xbC m c) rfl) $$ Hb; iintro Hb
  ihave Hb := (Entails.of_eq (blks_eq m c)) $$ Hb
  icases Hb with ⟨Hb0, Hb1, Hb2, Hb3⟩
  -- the three TRANSFERS
  unfold OR
  iapply (wp_snd m c 1 _ (dev4_eq c) (off2_eq c 1) (k0_off1_eq c) rfl rfl (tR c 3 + tR c 2) p1) $$ [Hb1 Hp1 HO Hts1 Htr1]
  · isplitr; · iexact HIs1
    isplitr; · iexact HIp1
    isplitl [Hb1]; · iexact Hb1
    isplitl [Hp1]; · iexact Hp1
    isplitl [HO]; · iexact HO
    isplitl [Hts1]; · iexact Hts1
    isplitr; · iexact Hms1
    isplitl [Htr1]; · iexact Htr1
    iexact Hmp1
  iintro ⟨HcS1, HO⟩
  iapply (wp_snd m c 2 _ (dev5_eq c) (off2_eq c 2) (k0_off1_eq c) rfl rfl (tR c 3) p2) $$ [Hb2 Hp2 HO Hts2 Htr2]
  · isplitr; · iexact HIs2
    isplitr; · iexact HIp2
    isplitl [Hb2]; · iexact Hb2
    isplitl [Hp2]; · iexact Hp2
    isplitl [HO]; · iexact HO
    isplitl [Hts2]; · iexact Hts2
    isplitr; · iexact Hms2
    isplitl [Htr2]; · iexact Htr2
    iexact Hmp2
  iintro ⟨HcS2, HO⟩
  rw [show tR c 3 = 0 + tR c 3 from (zero_add _).symm]
  iapply (wp_snd m c 3 _ (dev6_eq c) (off2_eq c 3) (k0_off1_eq c) rfl rfl 0 p3) $$ [Hb3 Hp3 HO Hts3 Htr3]
  · isplitr; · iexact HIs3
    isplitr; · iexact HIp3
    isplitl [Hb3]; · iexact Hb3
    isplitl [Hp3]; · iexact Hp3
    isplitl [HO]; · iexact HO
    isplitl [Hts3]; · iexact Hts3
    isplitr; · iexact Hms3
    isplitl [Htr3]; · iexact Htr3
    iexact Hmp3
  iintro ⟨HcS3, HO⟩
  -- the four copies of row blocks of `w_mat`
  ihave Hh := (Entails.of_eq (rows_eq m c)) $$ Hh
  icases Hh with ⟨Hh0, Hh1, Hh2, Hh3⟩
  ihave Hw := (Entails.of_eq (wsl_eq c f3)) $$ Hw
  icases Hw with ⟨Hw0, Hw1, Hw2, Hw3⟩
  iapply (wp_wcopy m c 0 c (k0_off3_eq c) rfl rfl f3) $$ [Hh0 Hw0 HzW0]
  · isplitl [Hh0]; · iexact Hh0
    isplitl [Hw0]; · iexact Hw0
    iexact HzW0
  iintro HF0
  iapply (wp_wcopy m c 1 (sh c 3) (off4_eq c 1) rfl rfl f3) $$ [Hh3 Hw1 HzW1]
  · isplitl [Hh3]; · iexact Hh3
    isplitl [Hw1]; · iexact Hw1
    iexact HzW1
  iintro HF1
  iapply (wp_wcopy m c 2 (sh c 1) (off4_eq c 3) rfl rfl f3) $$ [Hh1 Hw2 HzW2]
  · isplitl [Hh1]; · iexact Hh1
    isplitl [Hw2]; · iexact Hw2
    iexact HzW2
  iintro HF2
  iapply (wp_wcopy m c 3 (sh c 2) (off4_eq c 2) rfl rfl f3) $$ [Hh2 Hw3 HzW3]
  · isplitl [Hh2]; · iexact Hh2
    isplitl [Hw3]; · iexact Hw3
    iexact HzW3
  iintro HF3
  -- the device's own block
  iapply (wp_wwait m c 0 c f3 rfl) $$ [HF0 HO]
  · isplitl [HF0]; · iexact HF0
    iexact HO
  iintro ⟨Hw0, Hh0, HzW0, HO⟩
  iapply (wp_ldXd m c (k0_off5_eq c)) $$ Hx; iintro Hx
  iapply (wp_ldW c 0 (wb m c c) rfl) $$ Hw0; iintro %w0 %hw0 Hw0
  iapply (wp_ldO c) $$ Hout; iintro Hout
  iapply (wp_stO c (acc0 m c) (pay2_eq m c w0 hw0)) $$ Hout; iintro Hout
  -- the block from distance 1
  iapply (wp_rcv m c 1 rfl) $$ [HcR1 HO Har1]
  · isplitr; · iexact HIr1
    isplitl [HcR1]; · iexact HcR1
    isplitl [HO]; · iexact HO
    iexact Har1
  rw [recvPay_1]
  iintro ⟨Hc3, HzR1, HO⟩
  iapply (wp_wwait m c 1 (sh c 3) f3 rfl) $$ [HF1 HO]
  · isplitl [HF1]; · iexact HF1
    iexact HO
  iintro ⟨Hw1, Hh3, HzW1, HO⟩
  iapply (wp_ldO c) $$ Hout; iintro Hout
  iapply (wp_ldC c (sh c 3) (cb m c (sh c 3)) (off7_eq c 1)) $$ Hc3; iintro %v1 %hv1 Hc3
  iapply (wp_ldW c 1 (wb m c (sh c 3)) rfl) $$ Hw1; iintro %w1 %hw1 Hw1
  iapply (wp_ldO c) $$ Hout; iintro Hout
  iapply (wp_stO c _ (pay3_eq m c (sh c 3) (acc0 m c) v1 w1 hv1 hw1)) $$ Hout; iintro Hout
  -- the block from distance 3
  iapply (wp_rcv m c 3 rfl) $$ [HcR3 HO Har3]
  · isplitr; · iexact HIr3
    isplitl [HcR3]; · iexact HcR3
    isplitl [HO]; · iexact HO
    iexact Har3
  rw [recvPay_3]
  iintro ⟨Hc1, HzR3, HO⟩
  iapply (wp_wwait m c 2 (sh c 1) f3 rfl) $$ [HF2 HO]
  · isplitl [HF2]; · iexact HF2
    iexact HO
  iintro ⟨Hw2, Hh1, HzW2, HO⟩
  iapply (wp_ldO c) $$ Hout; iintro Hout
  iapply (wp_ldC c (sh c 1) (cb m c (sh c 1)) (off7_eq c 3)) $$ Hc1; iintro %v2 %hv2 Hc1
  iapply (wp_ldW c 2 (wb m c (sh c 1)) rfl) $$ Hw2; iintro %w2 %hw2 Hw2
  iapply (wp_ldO c) $$ Hout; iintro Hout
  iapply (wp_stO c _ (pay4_eq m c (sh c 1) (accAdd m c (sh c 3) (acc0 m c)) v2 w2 hv2 hw2)) $$ Hout; iintro Hout
  -- the block from distance 2
  iapply (wp_rcv m c 2 rfl) $$ [HcR2 HO Har2]
  · isplitr; · iexact HIr2
    isplitl [HcR2]; · iexact HcR2
    isplitl [HO]; · iexact HO
    iexact Har2
  rw [recvPay_2]
  iintro ⟨Hc2, HzR2, HO⟩
  iapply (wp_wwait m c 3 (sh c 2) f3 rfl) $$ [HF3 HO]
  · isplitl [HF3]; · iexact HF3
    iexact HO
  iintro ⟨Hw3, Hh2, HzW3, HO⟩
  iapply (wp_ldO c) $$ Hout; iintro Hout
  iapply (wp_ldC c (sh c 2) (cb m c (sh c 2)) (off7_eq c 2)) $$ Hc2; iintro %v3 %hv3 Hc2
  iapply (wp_ldW c 3 (wb m c (sh c 2)) rfl) $$ Hw3; iintro %w3 %hw3 Hw3
  iapply (wp_ldO c) $$ Hout; iintro Hout
  iapply (wp_stO c _ (pay5_eq m c (sh c 2) (accAdd m c (sh c 1) (accAdd m c (sh c 3) (acc0 m c))) v3 w3 hv3 hw3)) $$ Hout; iintro Hout
  -- the three SEND cells: the row blocks back
  iapply (wp_snw m c 1 rfl) $$ [HcS1 HO Has1]
  · isplitr; · iexact HIs1
    isplitl [HcS1]; · iexact HcS1
    isplitl [HO]; · iexact HO
    iexact Has1
  iintro ⟨Hb1, HzS1, HO⟩
  iapply (wp_snw m c 2 rfl) $$ [HcS2 HO Has2]
  · isplitr; · iexact HIs2
    isplitl [HcS2]; · iexact HcS2
    isplitl [HO]; · iexact HO
    iexact Has2
  iintro ⟨Hb2, HzS2, HO⟩
  iapply (wp_snw m c 3 rfl) $$ [HcS3 HO Has3]
  · isplitr; · iexact HIs3
    isplitl [HcS3]; · iexact HcS3
    isplitl [HO]; · iexact HO
    iexact Has3
  iintro ⟨Hb3, HzS3, HO⟩
  unfold sendPay
  -- the epilogue
  iapply (wp_ldO c) $$ Hout; iintro Hout
  iapply (wp_ldO c) $$ Hout; iintro Hout
  iapply (wp_stO c (outAt m c) rfl) $$ Hout; iintro Hout
  unfold wpc; rw [wp_ret]; imodintro
  ihave Hc := (slots_join c f2) $$ [Hc0 Hc1 Hc2 Hc3]
  · isplitl [Hc0]; · iexists f2; iexact Hc0
    isplitl [Hc1]; · iexists _; iexact Hc1
    isplitl [Hc2]; · iexists _; iexact Hc2
    iexists _; iexact Hc3
  ihave Hw := (wsl_join c f3) $$ [Hw0 Hw1 Hw2 Hw3]
  · isplitl [Hw0]; · iexists _; iexact Hw0
    isplitl [Hw1]; · iexists _; iexact Hw1
    isplitl [Hw2]; · iexists _; iexact Hw2
    iexists _; iexact Hw3
  iapply Hk
  unfold bodyPost Φ₁ args scr xz lz sz Dat.owesAt Pipeline.owesWithin
  rw [show (dats m ρ 0 c).owed t₀.succ = 0 from rfl, rows_eq]
  isplitr [HO Hout]
  · isplitl [Ha Hh0 Hh1 Hh2 Hh3]
    · isplitl [Ha]; · iexact Ha
      isplitl [Hh0]; · iexact Hh0
      isplitl [Hh1]; · iexact Hh1
      isplitl [Hh2]; · iexact Hh2
      iexact Hh3
    isplitl [Hx Hb0 Hb1 Hb2 Hb3 Hc Hw]
    · isplitl [Hx]; · iexists _; iexact Hx
      isplitl [Hb0 Hb1 Hb2 Hb3]
      · iexists (xbC m c); rw [blks_eq]
        isplitl [Hb0]; · iexact Hb0
        isplitl [Hb1]; · iexact Hb1
        isplitl [Hb2]; · iexact Hb2
        iexact Hb3
      isplitl [Hc]; · iexact Hc
      iexact Hw
    isplitl [HzB HzS1 HzS2 HzS3 HzR1 HzR2 HzR3]
    · isplitl [HzB]; · iexact HzB
      isplitl [HzS1 HzS2 HzS3]
      · isplitl [HzS1]; · iexact HzS1
        isplitl [HzS2]; · iexact HzS2
        iexact HzS3
      isplitl [HzR1]; · iexact HzR1
      isplitl [HzR2]; · iexact HzR2
      iexact HzR3
    isplitl [HzX HzW0 HzW1 HzW2 HzW3]
    · isplitl [HzX]; · iexact HzX
      isplitl [HzW0]; · iexact HzW0
      isplitl [HzW1]; · iexact HzW1
      isplitl [HzW2]; · iexact HzW2
      iexact HzW3
    iexact Hsz
  isplitl [HO]
  · iexists _
    isplitr; rotate_left; · iexact HO
    ipureintro; exact fun _ _ => Or.inl trivial
  iexists _; isplitr; · (ipureintro; rfl)
  iexact Hout

end Cert.KernelIdeal.Exch

end
-- ==== Proof.Run.lean ====
/-
# `KernelIdeal`'s launch

The exchange's cells are allocated for all four devices at once, the duties' tokens are dealt to the devices that pay
them, and the run of @main is concluded: the result array of every device, its arguments, every counter.
-/
module

public import proofs.«01_k».proof.Proof.Body
public import Idealize.ShloMosaic.Lib.Pipeline.CollectiveSegs

@[expose] public section

set_option maxRecDepth 16384

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- There is one window. -/
theorem bigSep_W (Φ : Fin cfg0.W → sProp 𝕄) : bigSep Finset.univ Φ = Φ (0 : Fin 1) := bigSep_W0 Φ

omit [FloatOps F] in
/-- Holding a whole buffer is holding its contents. -/
theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body aM (Memref.isWhole_whole _) hM (Memref.isWhole_whole _) oM (Memref.isWhole_whole _) xM (Memref.isWhole_whole _) bM (Memref.isWhole_whole _)
      cM (Memref.isWhole_whole _) wM (Memref.isWhole_whole _) cc0_scratch4 cc0_scratch5 cc0_scratch6 cc0_scratch7) (fun _ => bodyPost m ρ c)
  iintro H
  iapply (sound_body m ρ c fun _ => bodyPost m ρ c)
  isplitl [H]; · iexact H
  iintro H'; iexact H'

/-! ## The cells and their tokens -/

/-- The kernel's own semaphores: all but the pipeline's. -/
abbrev osem : Fin 13 → SemLoc sig := fun i => .dma ⟨i.val + 1, Nat.succ_lt_succ i.isLt⟩

/-- They are the kernel's own. -/
theorem ownSemFacts : Pipeline.OwnSemFacts cfg0.spec osem := by decide

/-- The windows are held whole. -/
theorem share_eq (c : Dev nD) (w : Fin cfg0.W) : (dats m ρ 0 c).share w = fullShare := by unfold Dat.share; split <;> rfl

/-- The exchange's semaphores: the barrier, the three for sending, the three for receiving. -/
abbrev ksem : Fin 7 → SemLoc sig :=
  ![.reg barS, .dma (sendS 1), .dma (sendS 2), .dma (sendS 3), .dma (recvS 1), .dma (recvS 2), .dma (recvS 3)]
/-- The tokens' semaphores and duties: the barrier's three, then one for each of the other six. -/
abbrev tsem : Fin 9 → Fin 7 := ![0, 0, 0, 1, 2, 3, 4, 5, 6]
/-- Their duties. -/
abbrev tdut : Fin 9 → Fin 4 := ![1, 2, 3, 0, 0, 0, 0, 0, 0]

/-- The exchange's semaphores differ. -/
theorem ksem_inj : ∀ k k', ksem k = ksem k' → k = k' := by decide
/-- So do the tokens. -/
theorem tok_inj : ∀ j j', tsem j = tsem j' → tdut j = tdut j' → j = j' := by decide

/-- The exchange's cells, by device and number. -/
abbrev kcell (ck : Dev nD × Fin 7) : GSem nD τ sig := ((ck.1 : Thread nD τ), ksem ck.2)

/-- They differ. -/
theorem kcell_inj : Function.Injective (kcell : Dev nD × Fin 7 → GSem nD τ sig) := by
  rintro ⟨c, k⟩ ⟨c', k'⟩ h
  have h1 : c = c' := congrArg (fun g : GSem nD τ sig => g.1.1) h
  have h2 : k = k' := ksem_inj k k' (congrArg Prod.snd h)
  rw [h1, h2]

/-- The tokens, by device and number. -/
abbrev tokOf (cj : Dev nD × Fin 9) : GSem nD τ sig × ℕ × Fin 4 := (kcell (cj.1, tsem cj.2), 0, tdut cj.2)

/-- They differ. -/
theorem tokOf_inj : Function.Injective (tokOf : Dev nD × Fin 9 → GSem nD τ sig × ℕ × Fin 4) := by
  rintro ⟨c, j⟩ ⟨c', j'⟩ h
  have h1 := kcell_inj (congrArg Prod.fst h)
  have h2 : j = j' := tok_inj j j' (congrArg Prod.snd h1) (congrArg (fun x : GSem nD τ sig × ℕ × Fin 4 => x.2.2) h)
  have h3 : c = c' := congrArg Prod.fst h1
  rw [h2, h3]

/-- All cells of the exchange. -/
def exCells : Finset (GSem nD τ sig) := Finset.univ.map ⟨kcell, kcell_inj⟩
/-- All its tokens. -/
def exToks : Finset (GSem nD τ sig × ℕ × Fin 4) := Finset.univ.map ⟨tokOf, tokOf_inj⟩

/-- The launch's ghost element. -/
def u₀ : UU := (initOf (Pipeline.cells cfgs cellOf_inj) (Pipeline.launchToks cfgs cellOf_inj), (initOf exCells exToks, 1))

omit [FloatOps F] in
/-- A family over seven, listed. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- A family over nine, listed. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The tokens of device `c`'s own cells. -/
def toks (c : Dev nD) : sProp 𝕄 := bigSep Finset.univ fun j : Fin 9 => dutyTok ER (kcell (c, tsem j)) 0 (tdut j)
/-- The positions of device `c`'s cells. -/
def ats (c : Dev nD) : sProp 𝕄 := bigSep Finset.univ fun k : Fin 7 => atPos ER (kcell (c, k)) 0 ∅ 0
/-- The marks that its cells are at round 0. -/
def marks (c : Dev nD) : sProp 𝕄 := bigSep Finset.univ fun k : Fin 7 => reached ER (kcell (c, k)) 0
/-- The states of its cells. -/
def states (c : Dev nD) : sProp 𝕄 := bigSep Finset.univ fun k : Fin 7 => roundState ER (exRd m) (kcell (c, k)) 0
/-- The invariants of its cells. -/
def invs (c : Dev nD) : sProp 𝕄 := bigSep Finset.univ fun k : Fin 7 => Inv m (kcell (c, k))

omit [FloatOps F] in
/-- The marks may be used again and again. -/
instance marks_persistent (c : Dev nD) : BI.Persistent (marks (F := F) c) := by unfold marks; infer_instance
/-- The invariants may be used again and again. -/
instance invs_persistent (c : Dev nD) : BI.Persistent (invs m c) := by unfold invs; infer_instance

/-- What the launch element deals device `c`. -/
def G (c : Dev nD) : sProp 𝕄 := iprop(states m c ∗ ats c ∗ marks c ∗ toks c)
/-- What the devices hold once the cells are allocated. -/
def G' (c : Dev nD) : sProp 𝕄 := iprop(ghost m c ∗ lz c ∗ sz c)

omit [FloatOps F] in
/-- A family over the exchange's cells, device by device. -/
theorem bigSep_exCells (Φ : GSem nD τ sig → sProp 𝕄) :
    bigSep exCells Φ = bigSep Finset.univ fun c : Dev nD => bigSep Finset.univ fun k : Fin 7 => Φ (kcell (c, k)) := by
  unfold exCells; rw [BI.bigSep_map, BI.bigSep_univ_prod]; rfl

omit [FloatOps F] in
/-- The tokens, device by device. -/
theorem bigSep_exToks : bigSep exToks (fun x => (dutyTok ER x.1 x.2.1 x.2.2 : sProp 𝕄)) = bigSep Finset.univ fun c : Dev nD => toks c := by
  unfold exToks; rw [BI.bigSep_map, BI.bigSep_univ_prod]; rfl

/-- The exchange's part of the launch element, dealt. -/
theorem deal : BI.own (ER (initOf exCells exToks)) ⊢ (|==> bigSep Finset.univ (G m) : sProp 𝕄) := by
  iintro HX
  imod (Rounds.fund ER (exRd m) exCells exToks) $$ HX with ⟨Hst, Hr, Hat, Htok⟩
  imodintro
  ihave Hst := (Entails.of_eq (bigSep_exCells fun g => roundState ER (exRd m) g 0)) $$ Hst
  ihave Hat := (Entails.of_eq (bigSep_exCells fun g => atPos ER g 0 ∅ 0)) $$ Hat
  ihave Hr := (Entails.of_eq (bigSep_exCells fun g => reached ER g 0)) $$ Hr
  ihave Htok := (Entails.of_eq bigSep_exToks) $$ Htok
  unfold G; simp only [bigSep_sep']
  isplitl [Hst]; · iexact Hst
  isplitl [Hat]; · iexact Hat
  isplitl [Hr]; · iexact Hr
  iexact Htok

/-! ## The cells allocated -/

omit [FloatOps F] in
/-- The kernel's own thirteen semaphores. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0 ∗ lz c) := by
  rw [Pipeline.ownSems0_eq_of_list c osem [0, 1, 2, 3, 4, 5, 6, 7, 8, 9, 10, 11, 12] (by decide) (by decide)]; rfl
omit [FloatOps F] in
/-- The barrier is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All of them, with the exchange's apart. -/
theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0) ∗ lz c ∗ sz c : sProp 𝕄) := by
  rw [ownSems0_eq, unscopedSems0_eq, bigSep_fin7]
  unfold sz
  iintro ⟨⟨s0, s1, s2, s3, r0, r1, r2, r3, Hl⟩, HB⟩
  isplitl [HB s1 s2 s3 r1 r2 r3]
  · isplitl [HB]; · iexact HB
    isplitl [s1]; · iexact s1
    isplitl [s2]; · iexact s2
    isplitl [s3]; · iexact s3
    isplitl [r1]; · iexact r1
    isplitl [r2]; · iexact r2
    iexact r3
  isplitl [Hl]; · iexact Hl
  isplitl [s0] <;> iassumption

/-- A device's cells, their counters put into invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(invs m c ∗ marks c ∗ ats c ∗ toks c ∗ lz c ∗ sz c) := by
  have hI : iprop((bigSep Finset.univ fun k : Fin 7 => semVal (kcell (c, k)) 0) ∗ states m c) ⊢ (|={Set.univ}=> invs m c : sProp 𝕄) := by
    unfold states invs
    rw [← bigSep_sep']
    exact (bigSep_mono fun k _ => (Rounds.body_intro ER (exRd m) (kcell (c, k))).trans inv_alloc).trans (bigSep_fupd _ _)
  unfold G
  iintro ⟨Hos, Hus, Hst, Hat, Hr, Htok⟩
  ihave H := (sems_split (F := F) c) $$ [Hos Hus]
  · isplitl [Hos] <;> iassumption
  icases H with ⟨Hv, Hl, Hs⟩
  imod hI $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [Hl] <;> iassumption

/-- What every device may use of every other: the invariants and the marks. -/
def recs : sProp 𝕄 := iprop(bigSep Finset.univ (invs m) ∗ bigSep Finset.univ (marks (F := F)))
/-- They may be used again and again. -/
instance recs_persistent : BI.Persistent (recs m) := by unfold recs; infer_instance

/-- One cell's invariant and mark out of them. -/
theorem recs_at (c : Dev nD) (s : SemLoc sig) (k : Fin 7) (h : ksem k = s) :
    recs m ⊢ iprop(Inv m ((c : Thread nD τ), s) ∗ reached ER ((c : Thread nD τ), s) 0) := by
  subst h
  unfold recs
  have h1 : (bigSep Finset.univ (invs m) : sProp 𝕄) ⊢ Inv m (kcell (c, k)) := by
    refine (bigSep_elim (Finset.mem_univ c)).trans ?_
    unfold invs; exact bigSep_elim (Finset.mem_univ k)
  have h2 : (bigSep Finset.univ (marks (F := F)) : sProp 𝕄) ⊢ reached ER (kcell (c, k)) 0 := by
    refine (bigSep_elim (Finset.mem_univ c)).trans ?_
    unfold marks; exact bigSep_elim (Finset.mem_univ k)
  iintro ⟨HI, HM⟩
  isplitl [HI]
  · iapply h1; iexact HI
  · iapply h2; iexact HM

/-- The tokens of the duties device `c` pays. -/
def pays (c : Dev nD) : sProp 𝕄 :=
  iprop((dutyTok ER (barCell (sh c 1)) 0 1 ∗ dutyTok ER (recvCell (sh c 1) 1) 0 0 ∗ dutyTok ER (sendCell c 1) 0 0)
    ∗ (dutyTok ER (barCell (sh c 2)) 0 2 ∗ dutyTok ER (recvCell (sh c 2) 2) 0 0 ∗ dutyTok ER (sendCell c 2) 0 0)
    ∗ (dutyTok ER (barCell (sh c 3)) 0 3 ∗ dutyTok ER (recvCell (sh c 3) 3) 0 0 ∗ dutyTok ER (sendCell c 3) 0 0))

omit [FloatOps F] in
/-- The tokens dealt around: a barrier or receive token of distance `d` goes to the device that is `d` before. -/
theorem toks_around : (bigSep Finset.univ fun c : Dev nD => (toks c : sProp 𝕄)) ⊢ bigSep Finset.univ fun c : Dev nD => pays c := by
  have e (d : Fin 4) (Φ : Dev nD → sProp 𝕄) : bigSep Finset.univ Φ = bigSep Finset.univ fun c : Dev nD => Φ (sh c d) := bigSep_univ_equiv (shift d) Φ
  unfold toks pays
  simp only [bigSep_fin9, bigSep_sep']
  iintro ⟨b1, b2, b3, s1, s2, s3, r1, r2, r3⟩
  ihave b1 := (Entails.of_eq (e 1 _)) $$ b1
  ihave b2 := (Entails.of_eq (e 2 _)) $$ b2
  ihave b3 := (Entails.of_eq (e 3 _)) $$ b3
  ihave r1 := (Entails.of_eq (e 1 _)) $$ r1
  ihave r2 := (Entails.of_eq (e 2 _)) $$ r2
  ihave r3 := (Entails.of_eq (e 3 _)) $$ r3
  isplitl [b1 r1 s1]
  · isplitl [b1]; · iexact b1
    isplitl [r1]; · iexact r1
    iexact s1
  isplitl [b2 r2 s2]
  · isplitl [b2]; · iexact b2
    isplitl [r2]; · iexact r2
    iexact s2
  isplitl [b3]; · iexact b3
  isplitl [r3]; · iexact r3
  iexact s3

/-- Distance `d`'s part of a device's ghost state. -/
theorem gh_intro (c : Dev nD) (d : Fin 4) (ks kr : Fin 7) (hs : ksem ks = .dma (sendS d)) (hr : ksem kr = .dma (recvS d)) :
    iprop(recs m ∗ atPos ER (sendCell c d) 0 ∅ 0 ∗ atPos ER (recvCell c d) 0 ∅ 0
        ∗ dutyTok ER (barCell (sh c d)) 0 d ∗ dutyTok ER (recvCell (sh c d) d) 0 0 ∗ dutyTok ER (sendCell c d) 0 0)
      ⊢ gh m c d := by
  unfold gh
  iintro ⟨#HR, Hat⟩
  ihave H1 := (recs_at m c _ ks hs) $$ HR
  ihave H2 := (recs_at m c _ kr hr) $$ HR
  ihave H3 := (recs_at m (sh c d) (.reg barS) 0 rfl) $$ HR
  ihave H4 := (recs_at m (sh c d) _ kr hr) $$ HR
  icases H1 with ⟨#Is, #Ms⟩
  icases H2 with ⟨#Ir, #Mr⟩
  icases H3 with ⟨#Ib, #Mb⟩
  icases H4 with ⟨#Ip, #Mp⟩
  isplitr
  · isplitr; · iexact Is
    isplitr; · iexact Ir
    isplitr; · iexact Ib
    iexact Ip
  isplitr
  · isplitr; · iexact Mb
    isplitr; · iexact Ms
    iexact Mr
  iexact Hat

/-- A device's ghost state from what every device may use and what is the device's own. -/
theorem ghost_intro (c : Dev nD) : iprop(recs m ∗ ats c ∗ pays c ∗ lz c ∗ sz c) ⊢ G' m c := by
  unfold G' ghost ats pays
  rw [bigSep_fin7]
  iintro ⟨#HR, ⟨aB, as1, as2, as3, ar1, ar2, ar3⟩, ⟨T1, T2, T3⟩, Hl⟩
  isplitr [Hl]
  · isplitl [aB]
    · ihave H := (recs_at m c (.reg barS) 0 rfl) $$ HR
      icases H with ⟨#Ib, #Mb⟩
      isplitr; · iexact Ib
      iexact aB
    isplitl [as1 ar1 T1]
    · iapply (gh_intro m c 1 1 4 rfl rfl)
      isplitr; · iexact HR
      isplitl [as1]; · iexact as1
      isplitl [ar1]; · iexact ar1
      iexact T1
    isplitl [as2 ar2 T2]
    · iapply (gh_intro m c 2 2 5 rfl rfl)
      isplitr; · iexact HR
      isplitl [as2]; · iexact as2
      isplitl [ar2]; · iexact ar2
      iexact T2
    iapply (gh_intro m c 3 3 6 rfl rfl)
    isplitr; · iexact HR
    isplitl [as3]; · iexact as3
    isplitl [ar3]; · iexact ar3
    iexact T3
  iexact Hl

omit [FloatOps F] in
/-- Something every member may use, beside a family. -/
theorem bigSep_beside {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine (sep_mono_left (BI.bigSep_of_persistent S R)).trans ?_
  rw [← bigSep_sep']
  exact bigSep_mono fun i _ => h i

/-- What was allocated, dealt to the devices that use it. -/
theorem regroup :
    (bigSep Finset.univ fun c : Dev nD => iprop(invs m c ∗ marks c ∗ ats c ∗ toks c ∗ lz c ∗ sz c) : sProp 𝕄) ⊢ bigSep Finset.univ (G' m) := by
  simp only [bigSep_sep']
  iintro ⟨#HI, #HM, Hat, Htok, Hl, Hs⟩
  ihave Hp := (toks_around (F := F)) $$ Htok
  iapply (bigSep_beside (R := recs m) fun c => ghost_intro m c)
  isplitr
  · unfold recs; isplitr; · iexact HI
    iexact HM
  simp only [bigSep_sep']
  isplitl [Hat]; · iexact Hat
  isplitl [Hp]; · iexact Hp
  isplitl [Hl] <;> iassumption

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The launch credit -/

section Credit
omit [FloatOps F]

/-- Equal cells are on equal devices, of equal semaphores. -/
theorem dev_of_cell {a b : Dev nD} {s s' : SemLoc sig} (h : (((a : Thread nD τ), s) : GSem nD τ sig) = ((b : Thread nD τ), s')) : a = b ∧ s = s' :=
  ⟨congrArg (fun g : GSem nD τ sig => g.1.1) h, congrArg Prod.snd h⟩

/-- Receive semaphores of different distances differ. -/
theorem recvS_inj {d e : Fin 4} (h : (SemLoc.dma (recvS d) : SemLoc sig) = .dma (recvS e)) : d = e := by revert d e; decide

/-- The devices owing `x` across distance `k` to device `c`: one. -/
theorem sum_before (c : Dev nD) (k : Fin 4) (x : ℕ) : (∑ d : Dev nD, if c = sh d k then x else 0) = x := by
  rw [Finset.sum_congr rfl fun d _ => if_congr (show c = sh d k ↔ d = sh c (ng k) from ⟨fun h => by rw [h, sh_ng], fun h => by rw [h, ng_sh]⟩) rfl rfl,
    Finset.sum_ite_eq' Finset.univ (sh c (ng k)) fun _ => x, if_pos (Finset.mem_univ _)]

/-- A transfer's debt at a receive cell. -/
theorem tR_recv (d c : Dev nD) (k e : Fin 4) : tR d k (recvCell c e) () = if e = k then (if c = sh d k then N else 0) else 0 := by
  rw [tallyAt_apply]
  by_cases he : e = k
  · subst he
    rw [if_pos rfl]
    by_cases hc : c = sh d e
    · rw [if_pos hc, hc, if_pos ⟨rfl, rfl⟩]
    · rw [if_neg hc, if_neg fun h => hc (dev_of_cell h.1).1]
  · rw [if_neg he, if_neg fun h => he (recvS_inj (dev_of_cell h.1).2)]
/-- A transfer owes no barrier. -/
theorem tR_bar (d c : Dev nD) (k : Fin 4) : tR d k (barCell c) () = 0 := by
  rw [tallyAt_apply, if_neg fun h => by have h := (dev_of_cell h.1).2; cases h]
/-- A signal owes no receive cell. -/
theorem tB_recv (d c : Dev nD) (k e : Fin 4) : tB d k (recvCell c e) () = 0 := by
  rw [tallyAt_apply, if_neg fun h => by have h := (dev_of_cell h.1).2; cases h]
/-- A signal's debt at a barrier cell. -/
theorem tB_bar (d c : Dev nD) (k : Fin 4) : tB d k (barCell c) () = if c = sh d k then 1 else 0 := by
  rw [tallyAt_apply]
  by_cases hc : c = sh d k
  · rw [if_pos hc, hc, if_pos ⟨rfl, rfl⟩]
  · rw [if_neg hc, if_neg fun h => hc (dev_of_cell h.1).1]

/-- Everything owed at a cell, term by term. -/
theorem O₀_at (d : Dev nD) (g : GSem nD τ sig) :
    O₀ d g () = tR d 3 g () + tR d 2 g () + tR d 1 g () + tB d 3 g () + tB d 2 g () + tB d 1 g () := rfl

/-- Everything a device owes a receive cell. -/
theorem O₀_recv (d c : Dev nD) (e : Fin 4) : O₀ d (recvCell c e) ()
    = (if e = 3 then (if c = sh d 3 then N else 0) else 0) + (if e = 2 then (if c = sh d 2 then N else 0) else 0)
      + (if e = 1 then (if c = sh d 1 then N else 0) else 0) := by
  rw [O₀_at, tR_recv, tR_recv, tR_recv, tB_recv, tB_recv, tB_recv]; rfl
/-- Everything a device owes a barrier cell. -/
theorem O₀_bar (d c : Dev nD) : O₀ d (barCell c) ()
    = (if c = sh d 3 then 1 else 0) + (if c = sh d 2 then 1 else 0) + (if c = sh d 1 then 1 else 0) := by
  rw [O₀_at, tR_bar, tR_bar, tR_bar, tB_bar, tB_bar, tB_bar, Nat.zero_add]

/-- All devices together owe a receive cell one slot's credit. -/
theorem owed_recv (c : Dev nD) (e : Fin 4) (he : e ≠ 0) : (∑ d : Dev nD, O₀ d (recvCell c e) ()) = N := by
  have hk (k : Fin 4) : (∑ d : Dev nD, if e = k then (if c = sh d k then N else 0) else 0) = if e = k then N else 0 := by
    by_cases h : e = k
    · simp only [if_pos h, sum_before]
    · simp only [if_neg h, Finset.sum_const_zero]
  rw [Finset.sum_congr rfl fun d _ => O₀_recv d c e, Finset.sum_add_distrib, Finset.sum_add_distrib, hk, hk, hk]
  generalize N = n
  have hc : e = 1 ∨ e = 2 ∨ e = 3 := by clear hk; revert e; decide
  rcases hc with rfl | rfl | rfl <;> simp

/-- All devices together owe a barrier cell three units. -/
theorem owed_bar (c : Dev nD) : (∑ d : Dev nD, O₀ d (barCell c) ()) = 3 := by
  rw [Finset.sum_congr rfl fun d _ => O₀_bar d c, Finset.sum_add_distrib, Finset.sum_add_distrib, sum_before, sum_before, sum_before]

/-- A cell's launch credit is what the devices owe it. -/
theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

end Credit

omit [FloatOps F] in
/-- The credit a device waits with, of its launch credit. -/
theorem crs_intro (c : Dev nD) : (Pipeline.launchCred O₀ c : sProp 𝕄) ⊢ crs c := by
  have h : bigSep [SemLoc.reg barS, .dma (recvS 1), .dma (recvS 2), .dma (recvS 3)].toFinset (fun sm : SemLoc sig =>
      (cred (tallyOn ((c.tc : Thread nD τ), sm) (launchCredit (Pipeline.owing O₀) 0 ((c.tc : Thread nD τ), sm))) : sProp 𝕄)) = crs c := by
    rw [bigSep_eq_bigSepL_of_eq [SemLoc.reg barS, .dma (recvS 1), .dma (recvS 2), .dma (recvS 3)] rfl (by decide),
      bigSepL_cons_cons, bigSepL_cons_cons, bigSepL_cons_cons, bigSepL_singleton,
      launch_at _ _ (owed_bar c), launch_at _ _ (owed_recv c 1 (by decide)), launch_at _ _ (owed_recv c 2 (by decide)), launch_at _ _ (owed_recv c 3 (by decide))]
    rfl
  unfold Pipeline.launchCred
  exact (bigSep_subset (Finset.subset_univ _)).trans (Entails.of_eq h)

/-! ## The theorem's side conditions -/

/-- What a device starts the kernel with, its scratches apart. -/
def X (c : Dev nD) : sProp 𝕄 := iprop(start m c ∗ args m c ∗ lz c ∗ sz c)
/-- What is read when it has ended. -/
def Y (c : Dev nD) : sProp 𝕄 := iprop(unscopedSems0 c ∗ args m c)

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold X start G'
  iintro ⟨Ha, Hlev, Hcr, -, Hg, Hz⟩
  ihave Hc := (crs_intro (F := F) c) $$ Hcr
  imodintro
  isplitl
  · isplitl [Hg Hc Hlev]
    · isplitl [Hg]; · iexact Hg
      isplitl [Hc] <;> iassumption
    isplitl [Ha]
    · unfold args; iexact Ha
    iexact Hz
  · iempintro

/-- With its scratches, that is what the body starts from. -/
theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold X Φ₀
  iintro ⟨⟨Hs, Ha, Hz⟩, -, Hr⟩
  isplitl [Hs]; · iexact Hs
  isplitl [Ha]; · iexact Ha
  isplitl [Hr]
  · unfold scr; iexact Hr
  iexact Hz

/-- What the body ends with goes back to the launch. -/
theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Y Φ₁ xz sz
  rw [unscopedSems0_eq]
  iintro ⟨Ha, Hr, ⟨HB, ⟨s1, s2, s3⟩, r1, r2, r3⟩, Hl, s0, r0⟩
  isplitl [HB Ha]
  · isplitl [HB] <;> iassumption
  isplitr [Hr]
  · isplitl [s0]; · iexact s0
    isplitl [s1]; · iexact s1
    isplitl [s2]; · iexact s2
    isplitl [s3]; · iexact s3
    isplitl [r0]; · iexact r0
    isplitl [r1]; · iexact r1
    isplitl [r2]; · iexact r2
    isplitl [r3]; · iexact r3
    iexact Hl
  unfold scr; iexact Hr

/-- The pipeline's own waits are allowed throughout. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact fun g u h => O₀_pos h
      · exact fun g u h => absurd h (Nat.lt_irrefl 0))

/-! ## The run -/

/-- What the run leaves on device `c`: the result array as the pipeline writes it back, and the arguments unchanged. -/
def QC (c : Dev nD) (s : MemSt nD τ sig (Elt F)) : Prop :=
  (∀ w : Fin cfg0.W, s.mem ((cfg0.win w).arr.view.loc (c : Thread nD τ)) = (dats m ρ 0 c).arrAt w cfg0.N)
    ∧ s.mem ((c : Thread nD τ).loc main_arg0) = xC m c ∧ s.mem ((c : Thread nD τ).loc main_arg1) = hC m c

omit [FloatOps F] in
/-- Read at the end: the unscoped counters at zero, the arguments as launched. -/
theorem Y_read (c : Dev nD) (s' : Phys nD τ sig (Elt F)) :
    iprop(Y m c ∗ SI s') ⊢ (|={Set.univ}=> iprop(⌜(∀ sm : SemLoc sig, sm.isScoped .tc = false → s'.mem.sem ((c.tc : Thread nD τ), sm) = 0)
        ∧ s'.mem.mem ((c : Thread nD τ).loc main_arg0) = xC m c ∧ s'.mem.mem ((c : Thread nD τ).loc main_arg1) = hC m c⌝ ∗ SI s') : sProp 𝕄) := by
  unfold Y args
  iintro ⟨⟨Hu, H0, H1⟩, HSI⟩
  icombine HSI H0 gives %h0
  icombine HSI H1 gives %h1
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ h0, Buf.eq_of_forall_mem_univ h1⟩
  iexact HSI

set_option maxRecDepth 8000 in
/-- For any float values, from any memory with zero counters: every weakly fair execution of @main on the four devices —
    the handshake, the exchange, the products — ends, and at the end every device's result array is the pipeline's, its
    arguments are unchanged and every counter is zero. -/
theorem run_main : θ_run defs (onTc (τ := τ) (main (F := F))) (s₀ m ρ) (fun r => (∀ c, QC m ρ c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HE, -⟩
      have hd : BI.own (((Emb.inl : Emb UB (UB × Counters)).trans embR) (initOf exCells exToks)) ⊢ (|==> bigSep Finset.univ (G m) : sProp 𝕄) := deal m
      imod hd $$ HE with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = xC m c ∧ s.mem ((c : Thread nD τ).loc main_arg1) = hC m c)
    (hY := fun c s' => by
      iintro ⟨Hy, -, HSI⟩
      iapply (Y_read m c s')
      isplitl [Hy] <;> iassumption)
    (hQ := fun _ h hs => ⟨fun c => ⟨fun w => (h c).1 w, (h c).2.2.2⟩, sem_eq_zero hs fun c => (h c).2.2.1⟩)

end Cert.KernelIdeal.Exch

end
-- ==== Proof.Math.lean ====
/-
# The mathematics of both programs

The product of two 2048 × 2048 matrices, one element at a time, followed by the tanh form of gelu; and the sum over 2048
columns cut into four blocks of 512.
-/
module

public import Idealize.ShloMosaic.Lib.Pointwise

@[expose] public section

noncomputable section

namespace Cert.Gelu

open Idealize.ShloMosaic

/-- Row `r` of block `q` of 512 rows, among 2048. -/
def row (q : Fin 4) (r : Fin 512) : Fin 2048 := ⟨512 * q.val + r.val, by have := q.isLt; have := r.isLt; omega⟩

/-- The tanh form of gelu, on one element. -/
def gelu (y : EReal) : EReal :=
  Ideal.ofBits .f32 0x3F000000#32 * y
    * (1 + Ideal.tanh (Ideal.ofBits .f32 0x3F4C422A#32 * (y + Ideal.ofBits .f32 0x3D372713#32 * (y * y * y))))

/-- A sum over 2048 columns, by blocks of 512. -/
theorem sum_rows (f : Fin 2048 → EReal) : ∑ k, f k = ∑ q : Fin 4, ∑ k : Fin 512, f (row q k) := by
  rw [← Finset.sum_product', Finset.univ_product_univ, ← Equiv.sum_comp (finProdFinEquiv (m := 4) (n := 512)) f]
  refine Finset.sum_congr rfl fun qk _ => congrArg f (Fin.ext ?_)
  show qk.2.val + 512 * qk.1.val = 512 * qk.1.val + qk.2.val
  omega

end Cert.Gelu

end
-- ==== Proof.Value.lean ====
/-
# The values the kernel leaves, over the extended reals

What a device's result array holds is read down to the arguments: the array is the last point's block, a block product
is a sum over 512 columns, every block read is the argument read 512 rows (or columns) further per device, and the four
block products of a device together are one sum over all 2048 columns.
-/
module

public import proofs.«01_k».proof.Proof.Run
public import Idealize.ShloMosaic.Lib.Pipeline.ValueKit
public import Idealize.ShloMosaic.Lib.Pointwise
public import proofs.«01_k».proof.Proof.Math

@[expose] public section

set_option maxRecDepth 16384

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gelu

variable (m : (ℓ : Loc nD τ sig) → Buf (Elt Ideal) ℓ) (ρ : Dev nD → PrngReg)

/-! ## The result array -/

/-- The result array of device `c` is what the body stored. -/
theorem arr_out (c : Dev nD) : (dats (F := Ideal) m ρ 0 c).arrAt (0 : Fin 1) cfg0.N = outAt m c := by
  refine (dats (F := Ideal) m ρ 0 c).arrAt_eq_of_after_last (0 : Fin 1) t0_0 (by decide +kernel) _ fun j => ?_
  blk_simp
  rfl

/-! ## Block reads -/

/-- A block of the cast slab, read. -/
theorem read_blk (q : Fin 4) (f : FVec Ideal S2048x512 .bf16) (r k : Fin 512) :
    (blkM q).view.read (Elt Ideal) f (ix2 r k) = f (ix2 (row q r) k) := by
  show f ((blkM q).view.emb (ix2 r k)) = _
  congr 1
  funext a; apply Fin.ext
  match a with
  | ⟨0, _⟩ => show 512 * q.val + 1 * r.val = 512 * q.val + r.val; omega
  | ⟨1, _⟩ => show 0 + 1 * k.val = k.val; omega

/-- A row block of `w_mat`, read. -/
theorem read_row (q : Fin 4) (f : FVec Ideal S2048x2048 .f32) (k : Fin 512) (l : Fin 2048) :
    (rowM q).view.read (Elt Ideal) f (ix2 k l) = f (ix2 (row q k) l) := by
  show f ((rowM q).view.emb (ix2 k l)) = _
  congr 1
  funext a; apply Fin.ext
  match a with
  | ⟨0, _⟩ => show 512 * q.val + 1 * k.val = 512 * q.val + k.val; omega
  | ⟨1, _⟩ => show 0 + 1 * l.val = l.val; omega

/-- The device's own block, read. -/
theorem read_xd (c : Dev nD) (r k : Fin 512) : xd m c (ix2 r k) = xC m c (ix2 (row c r) k) := by
  unfold xd
  show xC m c _ = _
  congr 1
  funext a; apply Fin.ext
  match a with
  | ⟨0, _⟩ => show 512 * c.val + 1 * r.val = 512 * c.val + r.val; omega
  | ⟨1, _⟩ => show 0 + 1 * k.val = k.val; omega

/-- The cast slab is the slab. -/
theorem xbC_at (c : Dev nD) (i : S2048x512.Idx) : xbC m c i = xC m c i := by
  unfold xbC
  pointwise [k0_pay1]

/-- What arrives at `c` from `q`: row block `c` of `q`'s slab. -/
theorem cb_at (c q : Dev nD) (r k : Fin 512) : cb m c q (ix2 r k) = xC m q (ix2 (row c r) k) :=
  (read_blk c (xbC m q) r k).trans (xbC_at m q _)

/-- The row block of `w_mat` it meets. -/
theorem wb_at (c q : Dev nD) (k : Fin 512) (l : Fin 2048) : wb m c q (ix2 k l) = hC m c (ix2 (row q k) l) :=
  read_row q (hC m c) k l

/-! ## The products -/

/-- A block product at an index. -/
theorem mm_at (a : FVec Ideal S512x512 .f32) (b : FVec Ideal S512x2048 .f32) (r : Fin 512) (l : Fin 2048) :
    mm a b (ix2 r l) = ∑ k : Fin 512, a (ix2 r k) * b (ix2 k l) := by
  pointwise [mm]

/-- A sum over the four devices, from `c` around the ring in the order the contributions arrive. -/
theorem sum_around (c : Dev nD) (g : Fin 4 → EReal) : g c + g (sh c 3) + g (sh c 1) + g (sh c 2) = ∑ q, g q := by
  have h0 : sh c 0 = c := by revert c; decide
  have h : ∑ q, g q = ∑ d : Fin 4, g (sh c d) := by
    refine (Equiv.sum_comp (⟨fun d => sh c d, fun q => sh q (ng c), ?_, ?_⟩ : Fin 4 ≃ Fin 4) g).symm
    · intro d; revert c d; decide
    · intro q; revert c q; decide
  rw [h, Fin.sum_univ_four, h0]
  ac_rfl

/-- The four contributions of device `c`, before the epilogue. -/
def total (c : Dev nD) : FVec Ideal S512x2048 .f32 := accAdd m c (sh c 2) (accAdd m c (sh c 1) (accAdd m c (sh c 3) (acc0 m c)))

/-- What device `q`'s columns of `x` contribute to element `(r, l)` of device `c`. -/
def part (c q : Dev nD) (r : Fin 512) (l : Fin 2048) : EReal := ∑ k : Fin 512, (show EReal from xC m q (ix2 (row c r) k)) * (show EReal from hC m c (ix2 (row q k) l))

/-- The device's own contribution. -/
theorem acc0_at (c : Dev nD) (r : Fin 512) (l : Fin 2048) : acc0 m c (ix2 r l) = part m c c r l := by
  unfold acc0 part
  rw [mm_at]
  exact Finset.sum_congr rfl fun k _ => by rw [read_xd, wb_at]

/-- Another device's contribution, added. -/
theorem accAdd_at (c q : Dev nD) (acc : FVec Ideal S512x2048 .f32) (r : Fin 512) (l : Fin 2048) :
    accAdd m c q acc (ix2 r l) = acc (ix2 r l) + part m c q r l := by
  unfold accAdd part
  refine congrArg (acc (ix2 r l) + ·) ((mm_at _ _ r l).trans (Finset.sum_congr rfl fun k _ => ?_))
  rw [wb_at]
  exact congrArg (· * _) (cb_at m c q r k)

/-- Together: the contributions of all four. -/
theorem total_at (c : Dev nD) (r : Fin 512) (l : Fin 2048) : total m c (ix2 r l) = ∑ q : Fin 4, part m c q r l := by
  unfold total
  rw [accAdd_at, accAdd_at, accAdd_at, acc0_at]
  exact sum_around c fun q => part m c q r l

/-! ## The epilogue -/

/-- The kernel's epilogue is `gelu` on every element. -/
theorem epilogue_at (v : FVec Ideal S512x2048 .f32) (i : S512x2048.Idx) : k0_pay6 (F := Ideal) v i = gelu (v i) := by
  pointwise [k0_pay6, gelu]

/-- The result of device `c` at an index. -/
theorem outAt_at (c : Dev nD) (r : Fin 512) (l : Fin 2048) : outAt m c (ix2 r l) = gelu (∑ q : Fin 4, part m c q r l) :=
  (epilogue_at (total m c) (ix2 r l)).trans (congrArg gelu (total_at m c r l))

end Cert.KernelIdeal.Exch

end
-- ==== Proof.Reference.lean ====
/-
# What the reference computes, over the extended reals

Every element of the reference's result is `gelu` of the sum over all 2048 columns.
-/
module

public import proofs.«01_k».proof.Proof.Gen.ReferenceIdeal.Run
public import proofs.«01_k».proof.Proof.Math

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Gelu

/-- The product of the two matrices. -/
def prod (X W : FVec Ideal S2048x2048 .f32) : FVec Ideal S2048x2048 .f32 :=
  Host.dotGeneral dot_S2048x2048_S2048x2048_S2048x2048_1_0_0_1_n_n none X W
/-- A constant spread over the result's shape. -/
def splat (b : BitVec 32) : FVec Ideal S2048x2048 .f32 := broadcastInDim S2048x2048 ![] bcast_S_S2048x2048 (constant S_ .f32 b)
/-- The reference's result over its two arguments. -/
def result (X W : FVec Ideal S2048x2048 .f32) : FVec Ideal S2048x2048 .f32 :=
  mulf (mulf (splat 0x3F000000#32) (prod X W)) (addf (splat 0x3F800000#32) (Host.tanh (mulf (splat 0x3F4C422A#32)
    (addf (prod X W) (mulf (splat 0x3D372713#32) (mulf (mulf (prod X W) (prod X W)) (prod X W)))))))

/-- The reference's result at an index. -/
theorem result_at (X W : FVec Ideal S2048x2048 .f32) (i l : Fin 2048) :
    result X W (ix2 i l) = gelu (∑ k : Fin 2048, X (ix2 i k) * W (ix2 k l)) := by
  pointwise [result, prod, splat, gelu]

/-- The reference's run, its result named. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.ReferenceIdeal.Value

end
-- ==== Proof.Equal.lean ====
/-
# The equation

Device `c`'s result is block `c` of the reference's: the sum over 2048 columns is the sum of the four devices' sums over
512 columns each.
-/
module

public import proofs.«01_k».proof.Proof.Value
public import proofs.«01_k».proof.Proof.Reference
public import Idealize.ShloMosaic.Lib.Layout

@[expose] public section

set_option maxRecDepth 16384

noncomputable section

namespace Cert.KernelIdeal.Exch

open Cert.KernelIdeal Cert.KernelIdeal.Gen Idealize.ShloMosaic Idealize.ShloMosaic.TcCoe Cert.Gelu

variable (m : (ℓ : Loc nD τ sig) → Buf (Elt Ideal) ℓ)

/-- Where every device holds its block of columns of `X` and all of `W`, device `c` computes its block of rows of the
    reference's result. -/
theorem outAt_block (X W : FVec Ideal ⟨2, ![2048, 2048]⟩ .f32)
    (hX : ∀ c : Dev nD, m ((c.tc : Thread nD τ).loc main_arg0) = Layout.block ⟨2, ![2048, 512]⟩ ⟨2, ![2048, 2048]⟩ 1 4 c X)
    (hW : ∀ c : Dev nD, m ((c.tc : Thread nD τ).loc main_arg1) = W) (c : Dev nD) :
    outAt m c = Layout.block ⟨2, ![512, 2048]⟩ ⟨2, ![2048, 2048]⟩ 0 4 c (Cert.ReferenceIdeal.Value.result X W) := by
  funext j
  obtain ⟨r, l, rfl⟩ : ∃ (r : Fin 512) (l : Fin 2048), j = ix2 r l := ⟨j 0, j 1, ValueIdx.eq_ix2 j⟩
  have hx (q : Fin 4) (i : Fin 2048) (k : Fin 512) : xC m q (ix2 i k) = X (ix2 i (row q k)) := by
    unfold xC
    rw [hX q]
    show X _ = X _
    congr 1
    funext a; apply Fin.ext
    match a with
    | ⟨0, _⟩ => rfl
    | ⟨1, _⟩ => show q.val * 512 + k.val = 512 * q.val + k.val; omega
  have hw (k l : Fin 2048) : hC m c (ix2 k l) = W (ix2 k l) := congrFun (hW c) _
  have hb : (show FVec Ideal ⟨2, ![512, 2048]⟩ .f32 from Layout.block ⟨2, ![512, 2048]⟩ ⟨2, ![2048, 2048]⟩ 0 4 c
        (Cert.ReferenceIdeal.Value.result X W)) (ix2 r l)
      = Cert.ReferenceIdeal.Value.result X W (ix2 (row c r) l) := by
    show Cert.ReferenceIdeal.Value.result X W _ = _
    congr 1
    funext a; apply Fin.ext
    match a with
    | ⟨0, _⟩ => show c.val * 512 + r.val = 512 * c.val + r.val; omega
    | ⟨1, _⟩ => rfl
  refine Eq.trans ?_ hb.symm
  rw [Cert.ReferenceIdeal.Value.result_at, sum_rows, outAt_at]
  refine congrArg gelu (Finset.sum_congr rfl fun q _ => Finset.sum_congr rfl fun k _ => ?_)
  rw [hx, hw]

end Cert.KernelIdeal.Exch

end
-- ==== Proof.lean ====
/-
# The certificate

The five claims, each read off a program's run: the three programs run to the end with their arguments unchanged and every
semaphore counter back at zero; the idealization rewrites nothing; and over the extended reals the four devices together
compute the reference's whole result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.BitsRun
public import proofs.«01_k».proof.Proof.Equal
public import Idealize.ShloMosaic.Adequacy
public import Idealize.ShloMosaic.Init

@[expose] public section

noncomputable section

namespace Cert.Proof

open Idealize.ShloMosaic Idealize.SL.Sem

/-- The kernel terminates without a fault, leaves its arguments, and ends with every counter at zero. -/
theorem frame_kernel : Cert.quiescent_Kernel := fun m g _ =>
  (θ_run Cert.Kernel.defs _ _).mono (fun _ h => ⟨fun c => (h.1 c).2, h.2⟩) (Cert.Kernel.Exch.run_main (F := Bits) m g)

/-- The same of its idealization. -/
theorem frame_ideal : Cert.quiescent_KernelIdeal := fun m g _ =>
  (θ_run Cert.KernelIdeal.defs _ _).mono (fun _ h => ⟨fun c => (h.1 c).2, h.2⟩)
    (Cert.KernelIdeal.Exch.run_main (F := Ideal) m g)

/-- The same of the reference, which has no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run_result m g)

/-- Over the extended reals every device's result is its block of the reference's. -/
theorem algebraic : Cert.algebraic_KernelIdeal_ReferenceIdeal := fun m g m' g' _ hagree =>
  ⟨_, (θ_run Cert.KernelIdeal.defs _ _).mono
      (fun _ h c => ⟨((h.1 c).1 0).trans ((Cert.KernelIdeal.Exch.arr_out m g c).trans
        (Cert.KernelIdeal.Exch.outAt_block m _ _ (fun d => (hagree d).1) (fun d => (hagree d).2) c)), (h.1 c).2⟩)
      (Cert.KernelIdeal.Exch.run_main (F := Ideal) m g),
    (θ_run Cert.ReferenceIdeal.defs _ _).mono (fun _ h => h 0) (Cert.ReferenceIdeal.Value.run_result m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
